-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_last_pairs_cost_nothing [hPre_last_pairs_cost_nothing : Cert.Pre_last_pairs_cost_nothing.Facts] (m : (ℓ : Loc Cert.KernelIdeal.nD Cert.KernelIdeal.τ Cert.KernelIdeal.sig) → Buf (Elt Ideal) ℓ) : Prop :=
  ∀ c : Dev Cert.KernelIdeal.nD,
    (Cert.Pre_last_pairs_cost_nothing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_last_pairs_cost_nothing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 = (fun _ => 1#1)

def Pre_KeptIdeal (m : (ℓ : Loc Cert.KeptIdeal.nD Cert.KeptIdeal.τ Cert.KeptIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_last_pairs_cost_nothing [hPre_last_pairs_cost_nothing : Cert.Pre_last_pairs_cost_nothing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_last_pairs_cost_nothing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_last_pairs_cost_nothing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_last_pairs_cost_nothing [hKernelIdeal : Cert.KernelIdeal.Facts] [hPre_last_pairs_cost_nothing : Cert.Pre_last_pairs_cost_nothing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_last_pairs_cost_nothing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KeptIdeal [hKeptIdeal : Cert.KeptIdeal.Facts] : Prop :=
  ∀ (m : (ℓ : Loc Cert.KeptIdeal.nD Cert.KeptIdeal.τ Cert.KeptIdeal.sig) → Buf (Elt Ideal) ℓ) (g : Dev Cert.KeptIdeal.nD → PrngReg), Pre_KeptIdeal m →
    θ_run (Cert.KeptIdeal.defs (F := Ideal)) (onTc (τ := Cert.KeptIdeal.τ) (Cert.KeptIdeal.main (F := Ideal))) ⟨m, fun _ => 0, g⟩ (fun r => (∀ c : Dev Cert.KeptIdeal.nD,
      r.2.mem ((c.tc : Thread Cert.KeptIdeal.nD Cert.KeptIdeal.τ).loc Cert.KeptIdeal.main_arg0) = m ((c.tc : Thread Cert.KeptIdeal.nD Cert.KeptIdeal.τ).loc Cert.KeptIdeal.main_arg0)
      ∧ r.2.mem ((c.tc : Thread Cert.KeptIdeal.nD Cert.KeptIdeal.τ).loc Cert.KeptIdeal.main_arg1) = m ((c.tc : Thread Cert.KeptIdeal.nD Cert.KeptIdeal.τ).loc Cert.KeptIdeal.main_arg1)
      ∧ r.2.mem ((c.tc : Thread Cert.KeptIdeal.nD Cert.KeptIdeal.τ).loc Cert.KeptIdeal.main_arg2) = m ((c.tc : Thread Cert.KeptIdeal.nD Cert.KeptIdeal.τ).loc Cert.KeptIdeal.main_arg2)
      ∧ r.2.mem ((c.tc : Thread Cert.KeptIdeal.nD Cert.KeptIdeal.τ).loc Cert.KeptIdeal.main_arg3) = m ((c.tc : Thread Cert.KeptIdeal.nD Cert.KeptIdeal.τ).loc Cert.KeptIdeal.main_arg3)
      ∧ r.2.mem ((c.tc : Thread Cert.KeptIdeal.nD Cert.KeptIdeal.τ).loc Cert.KeptIdeal.main_arg4) = m ((c.tc : Thread Cert.KeptIdeal.nD Cert.KeptIdeal.τ).loc Cert.KeptIdeal.main_arg4)
      ∧ r.2.mem ((c.tc : Thread Cert.KeptIdeal.nD Cert.KeptIdeal.τ).loc Cert.KeptIdeal.main_arg5) = m ((c.tc : Thread Cert.KeptIdeal.nD Cert.KeptIdeal.τ).loc Cert.KeptIdeal.main_arg5)
      ∧ r.2.mem ((c.tc : Thread Cert.KeptIdeal.nD Cert.KeptIdeal.τ).loc Cert.KeptIdeal.main_arg6) = m ((c.tc : Thread Cert.KeptIdeal.nD Cert.KeptIdeal.τ).loc Cert.KeptIdeal.main_arg6)
      ∧ r.2.mem ((c.tc : Thread Cert.KeptIdeal.nD Cert.KeptIdeal.τ).loc Cert.KeptIdeal.main_arg7) = m ((c.tc : Thread Cert.KeptIdeal.nD Cert.KeptIdeal.τ).loc Cert.KeptIdeal.main_arg7)
      ∧ r.2.mem ((c.tc : Thread Cert.KeptIdeal.nD Cert.KeptIdeal.τ).loc Cert.KeptIdeal.main_arg8) = m ((c.tc : Thread Cert.KeptIdeal.nD Cert.KeptIdeal.τ).loc Cert.KeptIdeal.main_arg8)
      ∧ r.2.mem ((c.tc : Thread Cert.KeptIdeal.nD Cert.KeptIdeal.τ).loc Cert.KeptIdeal.main_arg9) = m ((c.tc : Thread Cert.KeptIdeal.nD Cert.KeptIdeal.τ).loc Cert.KeptIdeal.main_arg9)
      ∧ r.2.mem ((c.tc : Thread Cert.KeptIdeal.nD Cert.KeptIdeal.τ).loc Cert.KeptIdeal.main_arg10) = m ((c.tc : Thread Cert.KeptIdeal.nD Cert.KeptIdeal.τ).loc Cert.KeptIdeal.main_arg10)
      ∧ r.2.mem ((c.tc : Thread Cert.KeptIdeal.nD Cert.KeptIdeal.τ).loc Cert.KeptIdeal.main_arg11) = m ((c.tc : Thread Cert.KeptIdeal.nD Cert.KeptIdeal.τ).loc Cert.KeptIdeal.main_arg11)
      ∧ r.2.mem ((c.tc : Thread Cert.KeptIdeal.nD Cert.KeptIdeal.τ).loc Cert.KeptIdeal.main_arg12) = m ((c.tc : Thread Cert.KeptIdeal.nD Cert.KeptIdeal.τ).loc Cert.KeptIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_last_pairs_cost_nothing [hReferenceIdeal : Cert.ReferenceIdeal.Facts] [hPre_last_pairs_cost_nothing : Cert.Pre_last_pairs_cost_nothing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_last_pairs_cost_nothing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_KeptIdeal [hKernelIdeal : Cert.KernelIdeal.Facts] [hKeptIdeal : Cert.KeptIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KeptIdeal.nD Cert.KeptIdeal.τ Cert.KeptIdeal.sig) → Buf (Elt Ideal) ℓ) (g' : Dev Cert.KeptIdeal.nD → PrngReg), Pre_KernelIdeal m →
    (∀ c : Dev Cert.KernelIdeal.nD,
      m' ((c.tc : Thread Cert.KeptIdeal.nD Cert.KeptIdeal.τ).loc Cert.KeptIdeal.main_arg0) = m ((c.tc : Thread Cert.KernelIdeal.nD Cert.KernelIdeal.τ).loc Cert.KernelIdeal.main_arg0)
      ∧ m' ((c.tc : Thread Cert.KeptIdeal.nD Cert.KeptIdeal.τ).loc Cert.KeptIdeal.main_arg1) = m ((c.tc : Thread Cert.KernelIdeal.nD Cert.KernelIdeal.τ).loc Cert.KernelIdeal.main_arg1)
      ∧ m' ((c.tc : Thread Cert.KeptIdeal.nD Cert.KeptIdeal.τ).loc Cert.KeptIdeal.main_arg2) = m ((c.tc : Thread Cert.KernelIdeal.nD Cert.KernelIdeal.τ).loc Cert.KernelIdeal.main_arg2)
      ∧ m' ((c.tc : Thread Cert.KeptIdeal.nD Cert.KeptIdeal.τ).loc Cert.KeptIdeal.main_arg3) = m ((c.tc : Thread Cert.KernelIdeal.nD Cert.KernelIdeal.τ).loc Cert.KernelIdeal.main_arg3)
      ∧ m' ((c.tc : Thread Cert.KeptIdeal.nD Cert.KeptIdeal.τ).loc Cert.KeptIdeal.main_arg4) = m ((c.tc : Thread Cert.KernelIdeal.nD Cert.KernelIdeal.τ).loc Cert.KernelIdeal.main_arg4)
      ∧ m' ((c.tc : Thread Cert.KeptIdeal.nD Cert.KeptIdeal.τ).loc Cert.KeptIdeal.main_arg5) = m ((c.tc : Thread Cert.KernelIdeal.nD Cert.KernelIdeal.τ).loc Cert.KernelIdeal.main_arg5)
      ∧ m' ((c.tc : Thread Cert.KeptIdeal.nD Cert.KeptIdeal.τ).loc Cert.KeptIdeal.main_arg6) = m ((c.tc : Thread Cert.KernelIdeal.nD Cert.KernelIdeal.τ).loc Cert.KernelIdeal.main_arg6)
      ∧ m' ((c.tc : Thread Cert.KeptIdeal.nD Cert.KeptIdeal.τ).loc Cert.KeptIdeal.main_arg7) = m ((c.tc : Thread Cert.KernelIdeal.nD Cert.KernelIdeal.τ).loc Cert.KernelIdeal.main_arg7)
      ∧ m' ((c.tc : Thread Cert.KeptIdeal.nD Cert.KeptIdeal.τ).loc Cert.KeptIdeal.main_arg8) = m ((c.tc : Thread Cert.KernelIdeal.nD Cert.KernelIdeal.τ).loc Cert.KernelIdeal.main_arg8)
      ∧ m' ((c.tc : Thread Cert.KeptIdeal.nD Cert.KeptIdeal.τ).loc Cert.KeptIdeal.main_arg9) = m ((c.tc : Thread Cert.KernelIdeal.nD Cert.KernelIdeal.τ).loc Cert.KernelIdeal.main_arg9)
      ∧ m' ((c.tc : Thread Cert.KeptIdeal.nD Cert.KeptIdeal.τ).loc Cert.KeptIdeal.main_arg10) = m ((c.tc : Thread Cert.KernelIdeal.nD Cert.KernelIdeal.τ).loc Cert.KernelIdeal.main_arg10)
      ∧ m' ((c.tc : Thread Cert.KeptIdeal.nD Cert.KeptIdeal.τ).loc Cert.KeptIdeal.main_arg11) = m ((c.tc : Thread Cert.KernelIdeal.nD Cert.KernelIdeal.τ).loc Cert.KernelIdeal.main_arg11)
      ∧ m' ((c.tc : Thread Cert.KeptIdeal.nD Cert.KeptIdeal.τ).loc Cert.KeptIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.KeptIdeal.defs (F := Ideal)) (onTc (τ := Cert.KeptIdeal.τ) (Cert.KeptIdeal.main (F := Ideal))) ⟨m', fun _ => 0, g'⟩ (fun r => ∀ c : Dev Cert.KeptIdeal.nD,
          r.2.mem ((c.tc : Thread Cert.KeptIdeal.nD Cert.KeptIdeal.τ).loc Cert.KeptIdeal.main_v136) = v0 c
          ∧ r.2.mem ((c.tc : Thread Cert.KeptIdeal.nD Cert.KeptIdeal.τ).loc Cert.KeptIdeal.main_arg0) = m' ((c.tc : Thread Cert.KeptIdeal.nD Cert.KeptIdeal.τ).loc Cert.KeptIdeal.main_arg0)
          ∧ r.2.mem ((c.tc : Thread Cert.KeptIdeal.nD Cert.KeptIdeal.τ).loc Cert.KeptIdeal.main_arg1) = m' ((c.tc : Thread Cert.KeptIdeal.nD Cert.KeptIdeal.τ).loc Cert.KeptIdeal.main_arg1)
          ∧ r.2.mem ((c.tc : Thread Cert.KeptIdeal.nD Cert.KeptIdeal.τ).loc Cert.KeptIdeal.main_arg2) = m' ((c.tc : Thread Cert.KeptIdeal.nD Cert.KeptIdeal.τ).loc Cert.KeptIdeal.main_arg2)
          ∧ r.2.mem ((c.tc : Thread Cert.KeptIdeal.nD Cert.KeptIdeal.τ).loc Cert.KeptIdeal.main_arg3) = m' ((c.tc : Thread Cert.KeptIdeal.nD Cert.KeptIdeal.τ).loc Cert.KeptIdeal.main_arg3)
          ∧ r.2.mem ((c.tc : Thread Cert.KeptIdeal.nD Cert.KeptIdeal.τ).loc Cert.KeptIdeal.main_arg4) = m' ((c.tc : Thread Cert.KeptIdeal.nD Cert.KeptIdeal.τ).loc Cert.KeptIdeal.main_arg4)
          ∧ r.2.mem ((c.tc : Thread Cert.KeptIdeal.nD Cert.KeptIdeal.τ).loc Cert.KeptIdeal.main_arg5) = m' ((c.tc : Thread Cert.KeptIdeal.nD Cert.KeptIdeal.τ).loc Cert.KeptIdeal.main_arg5)
          ∧ r.2.mem ((c.tc : Thread Cert.KeptIdeal.nD Cert.KeptIdeal.τ).loc Cert.KeptIdeal.main_arg6) = m' ((c.tc : Thread Cert.KeptIdeal.nD Cert.KeptIdeal.τ).loc Cert.KeptIdeal.main_arg6)
          ∧ r.2.mem ((c.tc : Thread Cert.KeptIdeal.nD Cert.KeptIdeal.τ).loc Cert.KeptIdeal.main_arg7) = m' ((c.tc : Thread Cert.KeptIdeal.nD Cert.KeptIdeal.τ).loc Cert.KeptIdeal.main_arg7)
          ∧ r.2.mem ((c.tc : Thread Cert.KeptIdeal.nD Cert.KeptIdeal.τ).loc Cert.KeptIdeal.main_arg8) = m' ((c.tc : Thread Cert.KeptIdeal.nD Cert.KeptIdeal.τ).loc Cert.KeptIdeal.main_arg8)
          ∧ r.2.mem ((c.tc : Thread Cert.KeptIdeal.nD Cert.KeptIdeal.τ).loc Cert.KeptIdeal.main_arg9) = m' ((c.tc : Thread Cert.KeptIdeal.nD Cert.KeptIdeal.τ).loc Cert.KeptIdeal.main_arg9)
          ∧ r.2.mem ((c.tc : Thread Cert.KeptIdeal.nD Cert.KeptIdeal.τ).loc Cert.KeptIdeal.main_arg10) = m' ((c.tc : Thread Cert.KeptIdeal.nD Cert.KeptIdeal.τ).loc Cert.KeptIdeal.main_arg10)
          ∧ r.2.mem ((c.tc : Thread Cert.KeptIdeal.nD Cert.KeptIdeal.τ).loc Cert.KeptIdeal.main_arg11) = m' ((c.tc : Thread Cert.KeptIdeal.nD Cert.KeptIdeal.τ).loc Cert.KeptIdeal.main_arg11)
          ∧ r.2.mem ((c.tc : Thread Cert.KeptIdeal.nD Cert.KeptIdeal.τ).loc Cert.KeptIdeal.main_arg12) = m' ((c.tc : Thread Cert.KeptIdeal.nD Cert.KeptIdeal.τ).loc Cert.KeptIdeal.main_arg12))

def algebraic_KernelIdeal_ReferenceIdeal_pre_last_pairs_cost_nothing [hKernelIdeal : Cert.KernelIdeal.Facts] [hReferenceIdeal : Cert.ReferenceIdeal.Facts] [hPre_last_pairs_cost_nothing : Cert.Pre_last_pairs_cost_nothing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_last_pairs_cost_nothing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hKeptIdeal : Cert.KeptIdeal.Facts) (hReferenceIdeal : Cert.ReferenceIdeal.Facts) (hPre_last_pairs_cost_nothing : Cert.Pre_last_pairs_cost_nothing.Facts),
    quiescent_Kernel (hKernel := hKernel)
    ∧ quiescent_KernelIdeal (hKernelIdeal := hKernelIdeal)
    ∧ quiescent_KernelIdeal_pre_last_pairs_cost_nothing (hKernelIdeal := hKernelIdeal) (hPre_last_pairs_cost_nothing := hPre_last_pairs_cost_nothing)
    ∧ quiescent_KeptIdeal (hKeptIdeal := hKeptIdeal)
    ∧ quiescent_ReferenceIdeal (hReferenceIdeal := hReferenceIdeal)
    ∧ quiescent_ReferenceIdeal_pre_last_pairs_cost_nothing (hReferenceIdeal := hReferenceIdeal) (hPre_last_pairs_cost_nothing := hPre_last_pairs_cost_nothing)
    ∧ preserves_Kernel_KernelIdeal
    ∧ algebraic_KernelIdeal_KeptIdeal (hKernelIdeal := hKernelIdeal) (hKeptIdeal := hKeptIdeal)
    ∧ algebraic_KernelIdeal_ReferenceIdeal_pre_last_pairs_cost_nothing (hKernelIdeal := hKernelIdeal) (hReferenceIdeal := hReferenceIdeal) (hPre_last_pairs_cost_nothing := hPre_last_pairs_cost_nothing)
-- ==== Pre_last_pairs_cost_nothing.lean ====
abbrev S10000x128 : Shape := ⟨2, ![10000, 128]⟩
abbrev S10000x3 : Shape := ⟨2, ![10000, 3]⟩
abbrev S10000 : Shape := ⟨1, ![10000]⟩
abbrev S4x320000 : Shape := ⟨2, ![4, 320000]⟩
abbrev S320000x2 : Shape := ⟨2, ![320000, 2]⟩
abbrev S2x320000 : Shape := ⟨2, ![2, 320000]⟩
abbrev S40x128 : Shape := ⟨2, ![40, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S512x1 : Shape := ⟨2, ![512, 1]⟩
abbrev S512 : Shape := ⟨1, ![512]⟩
abbrev S_ : Shape := ⟨0, ![]⟩
abbrev S512x128 : Shape := ⟨2, ![512, 128]⟩

class Facts : Prop where
  slices_S320000x2_S512x1_319488_0 : S320000x2.Slices ![319488, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  slices_S320000x2_S512x1_319488_1 : S320000x2.Slices ![319488, 1] S512x1
  reducesTo_S512x128_S512_d1 : S512x128.ReducesTo [1] S512
  h_S_ : 0 < S_.numel
  bcast_S_S512x128 : S_.BroadcastsInDim S512x128 (![] : Fin 0 → Fin S512x128.rank)
  gather_S10000x128_S512x1_S512x128_1_0_n_n_0_1_1128_wf : GatherDims.WF S10000x128 S512x1 S512x128 [1] [0] [] [0] [] 1 ![1, 128]

variable [Facts]

def gather_S10000x128_S512x1_S512x128_1_0_n_n_0_1_1128 : GatherDims S10000x128 S512x1 S512x128 where
  offsetDims := [1]
  collapsedSliceDims := [0]
  operandBatchingDims := []
  startIndicesBatchingDims := []
  startIndexMap := [0]
  indexVectorDim := 1
  sliceSizes := ![1, 128]
  wf := gather_S10000x128_S512x1_S512x128_1_0_n_n_0_1_1128_wf
def fn_part2 {F : FTy → Type} [FloatOps F] (main_v8 : FVec F S512x128 .f32) (main_v17 : FVec F S512x128 .f32) (main_v38 : FVec F S512x128 .f32) (main_cst : FVec F S_ .f32) : IVec S512x128 1 × IVec S512 1 :=
  let main_v39 : FVec F S512 .f32 := (fun x v => Host.reduceAdd x v reducesTo_S512x128_S512_d1 h_S_) main_v38 main_cst
  let main_v40 : FVec F S512 .f32 := Host.sqrt main_v39
  let main_v41 : FVec F S512x128 .f32 := subf main_v17 main_v8
  let main_cst_7 : FVec F S_ .f32 := constant S_ .f32 0x00000000#32
  let main_v42 : FVec F S512x128 .f32 := broadcastInDim S512x128 ![] bcast_S_S512x128 main_cst_7
  let main_v43 : IVec S512x128 1 := cmpf .ole main_v41 main_v42
  let main_cst_8 : FVec F S_ .f32 := constant S_ .f32 0x3F800000#32
  let main_v44 : FVec F S512 .f32 := broadcastInDim S512 ![] bcast_S_S512 main_cst_8
  let main_v45 : FVec F S512 .f32 := subf main_v44 main_v40
  let main_cst_9 : FVec F S_ .f32 := constant S_ .f32 0x00000000#32
  let main_v46 : FVec F S512 .f32 := broadcastInDim S512 ![] bcast_S_S512 main_cst_9
  let main_v47 : IVec S512 1 := cmpf .ole main_v45 main_v46
  (main_v43, main_v47)

def fn_part1 {F : FTy → Type} [FloatOps F] (main_arg0 : FVec F S10000x128 .f32) (main_arg5 : IVec S320000x2 32) (main_v8 : FVec F S512x128 .f32) (main_v17 : FVec F S512x128 .f32) (main_v19 : IVec S512 32) : IVec S512x128 1 × IVec S512 1 :=
  let main_c_3 : IVec S_ 32 := constantI S_ 32 0#32
  let main_v20 : IVec S512 32 := broadcastInDim S512 ![] bcast_S_S512 main_c_3
  let main_v21 : IVec S512 1 := cmpi .slt main_v19 main_v20
  let main_c_4 : IVec S_ 32 := constantI S_ 32 10000#32
  let main_v22 : IVec S512 32 := broadcastInDim S512 ![] bcast_S_S512 main_c_4
  let main_v23 : IVec S512 32 := addi main_v19 main_v22
  let main_v24 : IVec S512 32 := select main_v21 main_v23 main_v19
  let main_v25 : IVec S512x1 32 := broadcastInDim S512x1 ![0] bcast_S512_S512x1_0 main_v24
  let main_v26 : FVec F S512x128 .f32 := (fun x i => Host.gather gather_S10000x128_S512x1_S512x128_1_0_n_n_0_1_1128 x i) main_arg0 main_v25
  let main_v27 : IVec S512x1 32 := (extractStridedSlice S512x1 ![319488, 1] · slices_S320000x2_S512x1_319488_1) main_arg5
  let main_v28 : IVec S512 32 := shapeCast S512 main_v27 shapeCasts_S512x1_S512
  let main_c_5 : IVec S_ 32 := constantI S_ 32 0#32
  let main_v29 : IVec S512 32 := broadcastInDim S512 ![] bcast_S_S512 main_c_5
  let main_v30 : IVec S512 1 := cmpi .slt main_v28 main_v29
  let main_c_6 : IVec S_ 32 := constantI S_ 32 10000#32
  let main_v31 : IVec S512 32 := broadcastInDim S512 ![] bcast_S_S512 main_c_6
  let main_v32 : IVec S512 32 := addi main_v28 main_v31
  let main_v33 : IVec S512 32 := select main_v30 main_v32 main_v28
  let main_v34 : IVec S512x1 32 := broadcastInDim S512x1 ![0] bcast_S512_S512x1_0 main_v33
  let main_v35 : FVec F S512x128 .f32 := (fun x i => Host.gather gather_S10000x128_S512x1_S512x128_1_0_n_n_0_1_1128 x i) main_arg0 main_v34
  let main_v36 : FVec F S512x128 .f32 := subf main_v26 main_v35
  let main_v37 : FVec F S512x128 .f32 := subf main_v26 main_v35
  let main_v38 : FVec F S512x128 .f32 := mulf main_v36 main_v37
  let main_cst : FVec F S_ .f32 := constant S_ .f32 0x00000000#32
  fn_part2 (F := F) main_v8 main_v17 main_v38 main_cst

def fn {F : FTy → Type} [FloatOps F] (main_arg0 : FVec F S10000x128 .f32) (main_arg1 : FVec F S10000x3 .f32) (main_arg2 : IVec S10000 32) (main_arg3 : IVec S4x320000 32) (main_arg4 : IVec S320000x2 32) (main_arg5 : IVec S320000x2 32) (main_arg6 : IVec S2x320000 32) (main_arg7 : FVec F S40x128 .f32) (main_arg8 : FVec F S128 .f32) (main_arg9 : FVec F S128x128 .f32) (main_arg10 : FVec F S128 .f32) (main_arg11 : FVec F S128x40 .f32) (main_arg12 : FVec F S40 .f32) : IVec S512x128 1 × IVec S512 1 :=
  let main_v0 : IVec S512x1 32 := (extractStridedSlice S512x1 ![319488, 0] · slices_S320000x2_S512x1_319488_0) main_arg4
  let main_v1 : IVec S512 32 := shapeCast S512 main_v0 shapeCasts_S512x1_S512
  let main_c : IVec S_ 32 := constantI S_ 32 0#32
  let main_v2 : IVec S512 32 := broadcastInDim S512 ![] bcast_S_S512 main_c
  let main_v3 : IVec S512 1 := cmpi .slt main_v1 main_v2
  let main_c_0 : IVec S_ 32 := constantI S_ 32 10000#32
  let main_v4 : IVec S512 32 := broadcastInDim S512 ![] bcast_S_S512 main_c_0
  let main_v5 : IVec S512 32 := addi main_v1 main_v4
  let main_v6 : IVec S512 32 := select main_v3 main_v5 main_v1
  let main_v7 : IVec S512x1 32 := broadcastInDim S512x1 ![0] bcast_S512_S512x1_0 main_v6
  let main_v8 : FVec F S512x128 .f32 := (fun x i => Host.gather gather_S10000x128_S512x1_S512x128_1_0_n_n_0_1_1128 x i) main_arg0 main_v7
  let main_v9 : IVec S512x1 32 := (extractStridedSlice S512x1 ![319488, 1] · slices_S320000x2_S512x1_319488_1) main_arg4
  let main_v10 : IVec S512 32 := shapeCast S512 main_v9 shapeCasts_S512x1_S512
  let main_c_1 : IVec S_ 32 := constantI S_ 32 0#32
  let main_v11 : IVec S512 32 := broadcastInDim S512 ![] bcast_S_S512 main_c_1
  let main_v12 : IVec S512 1 := cmpi .slt main_v10 main_v11
  let main_c_2 : IVec S_ 32 := constantI S_ 32 10000#32
  let main_v13 : IVec S512 32 := broadcastInDim S512 ![] bcast_S_S512 main_c_2
  let main_v14 : IVec S512 32 := addi main_v10 main_v13
  let main_v15 : IVec S512 32 := select main_v12 main_v14 main_v10
  let main_v16 : IVec S512x1 32 := broadcastInDim S512x1 ![0] bcast_S512_S512x1_0 main_v15
  let main_v17 : FVec F S512x128 .f32 := (fun x i => Host.gather gather_S10000x128_S512x1_S512x128_1_0_n_n_0_1_1128 x i) main_arg0 main_v16
  let main_v18 : IVec S512x1 32 := (extractStridedSlice S512x1 ![319488, 0] · slices_S320000x2_S512x1_319488_0) main_arg5
  let main_v19 : IVec S512 32 := shapeCast S512 main_v18 shapeCasts_S512x1_S512
  fn_part1 (F := F) main_arg0 main_arg5 main_v8 main_v17 main_v19
-- ==== Kernel.lean ====
abbrev S10000x128 : Shape := ⟨2, ![10000, 128]⟩
abbrev S10000x3 : Shape := ⟨2, ![10000, 3]⟩
abbrev S10000 : Shape := ⟨1, ![10000]⟩
abbrev S4x320000 : Shape := ⟨2, ![4, 320000]⟩
abbrev S320000x2 : Shape := ⟨2, ![320000, 2]⟩
abbrev S2x320000 : Shape := ⟨2, ![2, 320000]⟩
abbrev S40x128 : Shape := ⟨2, ![40, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S19 : Shape := ⟨1, ![19]⟩
abbrev S1 : Shape := ⟨1, ![1]⟩
abbrev S20 : Shape := ⟨1, ![20]⟩
abbrev S1x320000 : Shape := ⟨2, ![1, 320000]⟩
abbrev S320000 : Shape := ⟨1, ![320000]⟩
abbrev S320000x1 : Shape := ⟨2, ![320000, 1]⟩
abbrev S320000x3 : Shape := ⟨2, ![320000, 3]⟩
abbrev S1x20 : Shape := ⟨2, ![1, 20]⟩
abbrev S320000x20 : Shape := ⟨2, ![320000, 20]⟩
abbrev S10000x20 : Shape := ⟨2, ![10000, 20]⟩
abbrev S10000x40 : Shape := ⟨2, ![10000, 40]⟩
abbrev S10000x1 : Shape := ⟨2, ![10000, 1]⟩
abbrev S1x40 : Shape := ⟨2, ![1, 40]⟩
abbrev S320000x128 : Shape := ⟨2, ![320000, 128]⟩
abbrev S2x128 : Shape := ⟨2, ![2, 128]⟩
abbrev S4096x128 : Shape := ⟨2, ![4096, 128]⟩
abbrev S4096 : Shape := ⟨1, ![4096]⟩
abbrev S32x128 : Shape := ⟨2, ![32, 128]⟩
abbrev S1x128 : Shape := ⟨2, ![1, 128]⟩

abbrev nBuf : Space → Nat
  | .hbm => 212
  | .vmem => 9
  | .smem => 0
  | _ => 0

abbrev hbmTy0_0 (i : Nat) : BufTy := match i % 128 with
  | 0 => ⟨S10000x128, .f32⟩
  | 1 => ⟨S10000x3, .f32⟩
  | 2 => ⟨S10000, .i32⟩
  | 3 => ⟨S4x320000, .i32⟩
  | 4 => ⟨S320000x2, .i32⟩
  | 5 => ⟨S320000x2, .i32⟩
  | 6 => ⟨S2x320000, .i32⟩
  | 7 => ⟨S40x128, .f32⟩
  | 8 => ⟨S128, .f32⟩
  | 9 => ⟨S128x128, .f32⟩
  | 10 => ⟨S128, .f32⟩
  | 11 => ⟨S128x40, .f32⟩
  | 12 => ⟨S40, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S19, .f32⟩
  | 21 => ⟨S_, .f32⟩
  | 22 => ⟨S19, .f32⟩
  | 23 => ⟨S19, .f32⟩
  | 24 => ⟨S1, .f32⟩
  | 25 => ⟨S_, .f32⟩
  | 26 => ⟨S19, .f32⟩
  | 27 => ⟨S19, .f32⟩
  | 28 => ⟨S19, .f32⟩
  | 29 => ⟨S19, .f32⟩
  | 30 => ⟨S1, .f32⟩
  | 31 => ⟨S19, .f32⟩
  | 32 => ⟨S19, .f32⟩
  | 33 => ⟨S19, .f32⟩
  | 34 => ⟨S1, .f32⟩
  | 35 => ⟨S20, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S19, .f32⟩
  | 44 => ⟨S_, .f32⟩
  | 45 => ⟨S19, .f32⟩
  | 46 => ⟨S19, .f32⟩
  | 47 => ⟨S1, .f32⟩
  | 48 => ⟨S_, .f32⟩
  | 49 => ⟨S19, .f32⟩
  | 50 => ⟨S19, .f32⟩
  | 51 => ⟨S19, .f32⟩
  | 52 => ⟨S19, .f32⟩
  | 53 => ⟨S1, .f32⟩
  | 54 => ⟨S19, .f32⟩
  | 55 => ⟨S19, .f32⟩
  | 56 => ⟨S19, .f32⟩
  | 57 => ⟨S1, .f32⟩
  | 58 => ⟨S20, .f32⟩
  | 59 => ⟨S1x320000, .i32⟩
  | 60 => ⟨S320000, .i32⟩
  | 61 => ⟨S1x320000, .i32⟩
  | 62 => ⟨S320000, .i32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x3, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x3, .f32⟩
  | 81 => ⟨S320000x3, .f32⟩
  | 82 => ⟨S320000x3, .f32⟩
  | 83 => ⟨S_, .f32⟩
  | 84 => ⟨S320000, .f32⟩
  | 85 => ⟨S320000, .f32⟩
  | 86 => ⟨S320000x1, .f32⟩
  | 87 => ⟨S320000, .f32⟩
  | 88 => ⟨S320000x1, .f32⟩
  | 89 => ⟨S320000, .f32⟩
  | 90 => ⟨S320000, .f32⟩
  | 91 => ⟨S320000, .f32⟩
  | 92 => ⟨S320000x1, .f32⟩
  | 93 => ⟨S1x20, .f32⟩
  | 94 => ⟨S320000x20, .f32⟩
  | 95 => ⟨S320000x20, .f32⟩
  | 96 => ⟨S320000x20, .f32⟩
  | 97 => ⟨S320000x20, .f32⟩
  | 98 => ⟨S320000x20, .f32⟩
  | 99 => ⟨S320000x20, .f32⟩
  | 100 => ⟨S320000x1, .f32⟩
  | 101 => ⟨S1x20, .f32⟩
  | 102 => ⟨S320000x20, .f32⟩
  | 103 => ⟨S320000x20, .f32⟩
  | 104 => ⟨S320000x20, .f32⟩
  | 105 => ⟨S320000x20, .f32⟩
  | 106 => ⟨S320000x20, .f32⟩
  | 107 => ⟨S320000x20, .f32⟩
  | 108 => ⟨S_, .f32⟩
  | 109 => ⟨S10000x20, .f32⟩
  | 110 => ⟨S320000x1, .i32⟩
  | 111 => ⟨S10000x20, .f32⟩
  | 112 => ⟨S_, .f32⟩
  | 113 => ⟨S10000x20, .f32⟩
  | 114 => ⟨S320000x1, .i32⟩
  | 115 => ⟨S10000x20, .f32⟩
  | 116 => ⟨S10000x40, .f32⟩
  | 117 => ⟨S10000x40, .f32⟩
  | 118 => ⟨S_, .f32⟩
  | 119 => ⟨S10000, .f32⟩
  | 120 => ⟨S10000x1, .f32⟩
  | 121 => ⟨S_, .f32⟩
  | 122 => ⟨S10000x1, .f32⟩
  | 123 => ⟨S10000x1, .f32⟩
  | 124 => ⟨S10000x40, .f32⟩
  | 125 => ⟨S10000x40, .f32⟩
  | 126 => ⟨S_, .f32⟩
  | 127 => ⟨S128, .f32⟩
  | _ => ⟨S10000x128, .f32⟩

abbrev hbmTy0_1 (i : Nat) : BufTy := match i % 128 with
  | 0 => ⟨S128, .f32⟩
  | 1 => ⟨S128, .f32⟩
  | 2 => ⟨S128, .f32⟩
  | 3 => ⟨S_, .f32⟩
  | 4 => ⟨S128, .f32⟩
  | 5 => ⟨S128, .f32⟩
  | 6 => ⟨S40, .f32⟩
  | 7 => ⟨S40, .f32⟩
  | 8 => ⟨S40, .f32⟩
  | 9 => ⟨S_, .f32⟩
  | 10 => ⟨S_, .f32⟩
  | 11 => ⟨S_, .f32⟩
  | 12 => ⟨S_, .f32⟩
  | 13 => ⟨S40, .f32⟩
  | 14 => ⟨S40, .f32⟩
  | 15 => ⟨S1x40, .f32⟩
  | 16 => ⟨S10000x40, .f32⟩
  | 17 => ⟨S10000x40, .f32⟩
  | 18 => ⟨S10000x40, .f32⟩
  | 19 => ⟨S_, .f32⟩
  | 20 => ⟨S_, .f32⟩
  | 21 => ⟨S_, .f32⟩
  | 22 => ⟨S_, .f32⟩
  | 23 => ⟨S320000x1, .i32⟩
  | 24 => ⟨S320000, .i32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x128, .f32⟩
  | 34 => ⟨S320000x1, .i32⟩
  | 35 => ⟨S320000, .i32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x128, .f32⟩
  | 45 => ⟨S320000x1, .i32⟩
  | 46 => ⟨S320000, .i32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x128, .f32⟩
  | 56 => ⟨S320000x1, .i32⟩
  | 57 => ⟨S320000, .i32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x128, .f32⟩
  | 67 => ⟨S2x128, .f32⟩
  | 68 => ⟨S1x128, .f32⟩
  | 69 => ⟨S128, .f32⟩
  | 70 => ⟨S_, .f32⟩
  | 71 => ⟨S_, .f32⟩
  | 72 => ⟨S_, .f32⟩
  | 73 => ⟨S_, .f32⟩
  | 74 => ⟨S1x128, .f32⟩
  | 75 => ⟨S128, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S2x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v0 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_cst : Ref sig .tc := ⟨.hbm, 41, rfl⟩
abbrev main_call1_v3 : Ref sig .tc := ⟨.hbm, 42, rfl⟩
abbrev main_call1_v4 : Ref sig .tc := ⟨.hbm, 43, rfl⟩
abbrev main_call1_cst_0 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_cst_1 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_v15 : Ref sig .tc := ⟨.hbm, 56, rfl⟩
abbrev main_call1_v16 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_c : Ref sig .tc := ⟨.hbm, 63, rfl⟩
abbrev main_v6 : Ref sig .tc := ⟨.hbm, 64, rfl⟩
abbrev main_v7 : Ref sig .tc := ⟨.hbm, 65, rfl⟩
abbrev main_c_3 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_c_4 : Ref sig .tc := ⟨.hbm, 72, rfl⟩
abbrev main_v13 : Ref sig .tc := ⟨.hbm, 73, rfl⟩
abbrev main_v14 : Ref sig .tc := ⟨.hbm, 74, rfl⟩
abbrev main_c_5 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_call2_v0 : Ref sig .tc := ⟨.hbm, 82, rfl⟩
abbrev main_call2_cst : Ref sig .tc := ⟨.hbm, 83, rfl⟩
abbrev main_call2_v1 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_6 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_7 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_cst_8 : Ref sig .tc := ⟨.hbm, 118, rfl⟩
abbrev main_v52 : Ref sig .tc := ⟨.hbm, 119, rfl⟩
abbrev main_v53 : Ref sig .tc := ⟨.hbm, 120, rfl⟩
abbrev main_cst_9 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call3_cst : Ref sig .tc := ⟨.hbm, 126, rfl⟩
abbrev main_call3_v0 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_call4_cst : Ref sig .tc := ⟨.hbm, 131, rfl⟩
abbrev main_call4_v0 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_cst_10 : Ref sig .tc := ⟨.hbm, 137, rfl⟩
abbrev main_v65 : Ref sig .tc := ⟨.hbm, 138, rfl⟩
abbrev main_cst_11 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_12 : Ref sig .tc := ⟨.hbm, 147, rfl⟩
abbrev main_v73 : Ref sig .tc := ⟨.hbm, 148, rfl⟩
abbrev main_cst_13 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_c_14 : Ref sig .tc := ⟨.hbm, 153, rfl⟩
abbrev main_v77 : Ref sig .tc := ⟨.hbm, 154, rfl⟩
abbrev main_v78 : Ref sig .tc := ⟨.hbm, 155, rfl⟩
abbrev main_c_15 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_c_16 : Ref sig .tc := ⟨.hbm, 164, rfl⟩
abbrev main_v86 : Ref sig .tc := ⟨.hbm, 165, rfl⟩
abbrev main_v87 : Ref sig .tc := ⟨.hbm, 166, rfl⟩
abbrev main_c_17 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_c_18 : Ref sig .tc := ⟨.hbm, 175, rfl⟩
abbrev main_v95 : Ref sig .tc := ⟨.hbm, 176, rfl⟩
abbrev main_v96 : Ref sig .tc := ⟨.hbm, 177, rfl⟩
abbrev main_c_19 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_c_20 : Ref sig .tc := ⟨.hbm, 186, rfl⟩
abbrev main_v104 : Ref sig .tc := ⟨.hbm, 187, rfl⟩
abbrev main_v105 : Ref sig .tc := ⟨.hbm, 188, rfl⟩
abbrev main_c_21 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_cst_22 : Ref sig .tc := ⟨.hbm, 198, rfl⟩
abbrev main_v114 : Ref sig .tc := ⟨.hbm, 199, rfl⟩
abbrev main_cst_23 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_cst_24 : Ref sig .tc := ⟨.hbm, 204, rfl⟩
abbrev main_v118 : Ref sig .tc := ⟨.hbm, 205, rfl⟩
abbrev main_cst_25 : Ref sig .tc := ⟨.hbm, 206, rfl⟩
abbrev main_v119 : Ref sig .tc := ⟨.hbm, 207, rfl⟩
abbrev main_v120 : Ref sig .tc := ⟨.hbm, 208, rfl⟩
abbrev main_cst_26 : Ref sig .tc := ⟨.hbm, 209, rfl⟩
abbrev main_v121 : Ref sig .tc := ⟨.hbm, 210, rfl⟩
abbrev main_v122 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![78], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KeptIdeal.lean ====
abbrev S10000x128 : Shape := ⟨2, ![10000, 128]⟩
abbrev S10000x3 : Shape := ⟨2, ![10000, 3]⟩
abbrev S10000 : Shape := ⟨1, ![10000]⟩
abbrev S4x320000 : Shape := ⟨2, ![4, 320000]⟩
abbrev S320000x2 : Shape := ⟨2, ![320000, 2]⟩
abbrev S2x320000 : Shape := ⟨2, ![2, 320000]⟩
abbrev S40x128 : Shape := ⟨2, ![40, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S19 : Shape := ⟨1, ![19]⟩
abbrev S1 : Shape := ⟨1, ![1]⟩
abbrev S20 : Shape := ⟨1, ![20]⟩
abbrev S1x320000 : Shape := ⟨2, ![1, 320000]⟩
abbrev S320000 : Shape := ⟨1, ![320000]⟩
abbrev S320000x1 : Shape := ⟨2, ![320000, 1]⟩
abbrev S320000x3 : Shape := ⟨2, ![320000, 3]⟩
abbrev S1x20 : Shape := ⟨2, ![1, 20]⟩
abbrev S320000x20 : Shape := ⟨2, ![320000, 20]⟩
abbrev S10000x20 : Shape := ⟨2, ![10000, 20]⟩
abbrev S10000x40 : Shape := ⟨2, ![10000, 40]⟩
abbrev S10000x1 : Shape := ⟨2, ![10000, 1]⟩
abbrev S1x128 : Shape := ⟨2, ![1, 128]⟩
abbrev S1x40 : Shape := ⟨2, ![1, 40]⟩
abbrev S319488x1 : Shape := ⟨2, ![319488, 1]⟩
abbrev S319488 : Shape := ⟨1, ![319488]⟩
abbrev S319488x128 : Shape := ⟨2, ![319488, 128]⟩

abbrev nBuf : Space → Nat
  | .hbm => 238
  | .vmem => 0
  | .smem => 0
  | _ => 0

abbrev hbmTy0_0 (i : Nat) : BufTy := match i % 128 with
  | 0 => ⟨S10000x128, .f32⟩
  | 1 => ⟨S10000x3, .f32⟩
  | 2 => ⟨S10000, .i32⟩
  | 3 => ⟨S4x320000, .i32⟩
  | 4 => ⟨S320000x2, .i32⟩
  | 5 => ⟨S320000x2, .i32⟩
  | 6 => ⟨S2x320000, .i32⟩
  | 7 => ⟨S40x128, .f32⟩
  | 8 => ⟨S128, .f32⟩
  | 9 => ⟨S128x128, .f32⟩
  | 10 => ⟨S128, .f32⟩
  | 11 => ⟨S128x40, .f32⟩
  | 12 => ⟨S40, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S19, .f32⟩
  | 21 => ⟨S_, .f32⟩
  | 22 => ⟨S19, .f32⟩
  | 23 => ⟨S19, .f32⟩
  | 24 => ⟨S1, .f32⟩
  | 25 => ⟨S_, .f32⟩
  | 26 => ⟨S19, .f32⟩
  | 27 => ⟨S19, .f32⟩
  | 28 => ⟨S19, .f32⟩
  | 29 => ⟨S19, .f32⟩
  | 30 => ⟨S1, .f32⟩
  | 31 => ⟨S19, .f32⟩
  | 32 => ⟨S19, .f32⟩
  | 33 => ⟨S19, .f32⟩
  | 34 => ⟨S1, .f32⟩
  | 35 => ⟨S20, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S19, .f32⟩
  | 44 => ⟨S_, .f32⟩
  | 45 => ⟨S19, .f32⟩
  | 46 => ⟨S19, .f32⟩
  | 47 => ⟨S1, .f32⟩
  | 48 => ⟨S_, .f32⟩
  | 49 => ⟨S19, .f32⟩
  | 50 => ⟨S19, .f32⟩
  | 51 => ⟨S19, .f32⟩
  | 52 => ⟨S19, .f32⟩
  | 53 => ⟨S1, .f32⟩
  | 54 => ⟨S19, .f32⟩
  | 55 => ⟨S19, .f32⟩
  | 56 => ⟨S19, .f32⟩
  | 57 => ⟨S1, .f32⟩
  | 58 => ⟨S20, .f32⟩
  | 59 => ⟨S1x320000, .i32⟩
  | 60 => ⟨S320000, .i32⟩
  | 61 => ⟨S1x320000, .i32⟩
  | 62 => ⟨S320000, .i32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x3, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x3, .f32⟩
  | 81 => ⟨S320000x3, .f32⟩
  | 82 => ⟨S320000x3, .f32⟩
  | 83 => ⟨S_, .f32⟩
  | 84 => ⟨S320000, .f32⟩
  | 85 => ⟨S320000, .f32⟩
  | 86 => ⟨S320000x1, .f32⟩
  | 87 => ⟨S320000, .f32⟩
  | 88 => ⟨S320000x1, .f32⟩
  | 89 => ⟨S320000, .f32⟩
  | 90 => ⟨S320000, .f32⟩
  | 91 => ⟨S320000, .f32⟩
  | 92 => ⟨S320000x1, .f32⟩
  | 93 => ⟨S1x20, .f32⟩
  | 94 => ⟨S320000x20, .f32⟩
  | 95 => ⟨S320000x20, .f32⟩
  | 96 => ⟨S320000x20, .f32⟩
  | 97 => ⟨S320000x20, .f32⟩
  | 98 => ⟨S_, .f32⟩
  | 99 => ⟨S320000x20, .f32⟩
  | 100 => ⟨S320000x20, .f32⟩
  | 101 => ⟨S320000x20, .f32⟩
  | 102 => ⟨S320000x1, .f32⟩
  | 103 => ⟨S1x20, .f32⟩
  | 104 => ⟨S320000x20, .f32⟩
  | 105 => ⟨S320000x20, .f32⟩
  | 106 => ⟨S320000x20, .f32⟩
  | 107 => ⟨S320000x20, .f32⟩
  | 108 => ⟨S_, .f32⟩
  | 109 => ⟨S320000x20, .f32⟩
  | 110 => ⟨S320000x20, .f32⟩
  | 111 => ⟨S320000x20, .f32⟩
  | 112 => ⟨S_, .f32⟩
  | 113 => ⟨S10000x20, .f32⟩
  | 114 => ⟨S320000x1, .i32⟩
  | 115 => ⟨S10000x20, .f32⟩
  | 116 => ⟨S_, .f32⟩
  | 117 => ⟨S10000x20, .f32⟩
  | 118 => ⟨S320000x1, .i32⟩
  | 119 => ⟨S10000x20, .f32⟩
  | 120 => ⟨S10000x40, .f32⟩
  | 121 => ⟨S10000x40, .f32⟩
  | 122 => ⟨S_, .f32⟩
  | 123 => ⟨S10000, .f32⟩
  | 124 => ⟨S10000x1, .f32⟩
  | 125 => ⟨S_, .f32⟩
  | 126 => ⟨S10000x1, .f32⟩
  | 127 => ⟨S10000x1, .f32⟩
  | _ => ⟨S10000x128, .f32⟩

abbrev hbmTy0_1 (i : Nat) : BufTy := match i % 128 with
  | 0 => ⟨S10000x40, .f32⟩
  | 1 => ⟨S10000x40, .f32⟩
  | 2 => ⟨S_, .f32⟩
  | 3 => ⟨S10000x40, .f32⟩
  | 4 => ⟨S10000x128, .f32⟩
  | 5 => ⟨S1x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x128, .f32⟩
  | 12 => ⟨S1x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S10000x40, .f32⟩
  | 19 => ⟨S1x40, .f32⟩
  | 20 => ⟨S10000x40, .f32⟩
  | 21 => ⟨S10000x40, .f32⟩
  | 22 => ⟨S10000x40, .f32⟩
  | 23 => ⟨S_, .f32⟩
  | 24 => ⟨S10000, .f32⟩
  | 25 => ⟨S10000x1, .f32⟩
  | 26 => ⟨S_, .f32⟩
  | 27 => ⟨S10000x1, .f32⟩
  | 28 => ⟨S10000x1, .f32⟩
  | 29 => ⟨S10000x40, .f32⟩
  | 30 => ⟨S10000x40, .f32⟩
  | 31 => ⟨S10000x40, .f32⟩
  | 32 => ⟨S10000x40, .f32⟩
  | 33 => ⟨S_, .f32⟩
  | 34 => ⟨S_, .f32⟩
  | 35 => ⟨S_, .f32⟩
  | 36 => ⟨S_, .f32⟩
  | 37 => ⟨S319488x1, .i32⟩
  | 38 => ⟨S319488, .i32⟩
  | 39 => ⟨S_, .i32⟩
  | 40 => ⟨S319488, .i32⟩
  | 41 => ⟨S319488, .i1⟩
  | 42 => ⟨S_, .i32⟩
  | 43 => ⟨S319488, .i32⟩
  | 44 => ⟨S319488, .i32⟩
  | 45 => ⟨S319488, .i32⟩
  | 46 => ⟨S319488x1, .i32⟩
  | 47 => ⟨S319488x128, .f32⟩
  | 48 => ⟨S319488x1, .i32⟩
  | 49 => ⟨S319488, .i32⟩
  | 50 => ⟨S_, .i32⟩
  | 51 => ⟨S319488, .i32⟩
  | 52 => ⟨S319488, .i1⟩
  | 53 => ⟨S_, .i32⟩
  | 54 => ⟨S319488, .i32⟩
  | 55 => ⟨S319488, .i32⟩
  | 56 => ⟨S319488, .i32⟩
  | 57 => ⟨S319488x1, .i32⟩
  | 58 => ⟨S319488x128, .f32⟩
  | 59 => ⟨S319488x128, .f32⟩
  | 60 => ⟨S_, .f32⟩
  | 61 => ⟨S319488x128, .f32⟩
  | 62 => ⟨S319488x128, .f32⟩
  | 63 => ⟨S_, .f32⟩
  | 64 => ⟨S319488, .f32⟩
  | 65 => ⟨S_, .f32⟩
  | 66 => ⟨S_, .f32⟩
  | 67 => ⟨S_, .f32⟩
  | 68 => ⟨S_, .f32⟩
  | 69 => ⟨S319488x1, .i32⟩
  | 70 => ⟨S319488, .i32⟩
  | 71 => ⟨S_, .i32⟩
  | 72 => ⟨S319488, .i32⟩
  | 73 => ⟨S319488, .i1⟩
  | 74 => ⟨S_, .i32⟩
  | 75 => ⟨S319488, .i32⟩
  | 76 => ⟨S319488, .i32⟩
  | 77 => ⟨S319488, .i32⟩
  | 78 => ⟨S319488x1, .i32⟩
  | 79 => ⟨S319488x128, .f32⟩
  | 80 => ⟨S319488x1, .i32⟩
  | 81 => ⟨S319488, .i32⟩
  | 82 => ⟨S_, .i32⟩
  | 83 => ⟨S319488, .i32⟩
  | 84 => ⟨S319488, .i1⟩
  | 85 => ⟨S_, .i32⟩
  | 86 => ⟨S319488, .i32⟩
  | 87 => ⟨S319488, .i32⟩
  | 88 => ⟨S319488, .i32⟩
  | 89 => ⟨S319488x1, .i32⟩
  | 90 => ⟨S319488x128, .f32⟩
  | 91 => ⟨S319488x128, .f32⟩
  | 92 => ⟨S319488x128, .f32⟩
  | 93 => ⟨S_, .f32⟩
  | 94 => ⟨S319488, .f32⟩
  | 95 => ⟨S319488, .f32⟩
  | 96 => ⟨S_, .f32⟩
  | 97 => ⟨S319488, .f32⟩
  | 98 => ⟨S319488, .f32⟩
  | 99 => ⟨S_, .f32⟩
  | 100 => ⟨S319488, .f32⟩
  | 101 => ⟨S319488, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v0 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_cst : Ref sig .tc := ⟨.hbm, 41, rfl⟩
abbrev main_call1_v3 : Ref sig .tc := ⟨.hbm, 42, rfl⟩
abbrev main_call1_v4 : Ref sig .tc := ⟨.hbm, 43, rfl⟩
abbrev main_call1_cst_0 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_cst_1 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_v15 : Ref sig .tc := ⟨.hbm, 56, rfl⟩
abbrev main_call1_v16 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_c : Ref sig .tc := ⟨.hbm, 63, rfl⟩
abbrev main_v6 : Ref sig .tc := ⟨.hbm, 64, rfl⟩
abbrev main_v7 : Ref sig .tc := ⟨.hbm, 65, rfl⟩
abbrev main_c_3 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_c_4 : Ref sig .tc := ⟨.hbm, 72, rfl⟩
abbrev main_v13 : Ref sig .tc := ⟨.hbm, 73, rfl⟩
abbrev main_v14 : Ref sig .tc := ⟨.hbm, 74, rfl⟩
abbrev main_c_5 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_call2_v0 : Ref sig .tc := ⟨.hbm, 82, rfl⟩
abbrev main_call2_cst : Ref sig .tc := ⟨.hbm, 83, rfl⟩
abbrev main_call2_v1 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_cst_6 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_7 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_cst_8 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_9 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_10 : Ref sig .tc := ⟨.hbm, 122, rfl⟩
abbrev main_v54 : Ref sig .tc := ⟨.hbm, 123, rfl⟩
abbrev main_v55 : Ref sig .tc := ⟨.hbm, 124, rfl⟩
abbrev main_cst_11 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_12 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_call3_cst : Ref sig .tc := ⟨.hbm, 136, rfl⟩
abbrev main_call3_v0 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_call4_cst : Ref sig .tc := ⟨.hbm, 143, rfl⟩
abbrev main_call4_v0 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_cst_13 : Ref sig .tc := ⟨.hbm, 151, rfl⟩
abbrev main_v76 : Ref sig .tc := ⟨.hbm, 152, rfl⟩
abbrev main_v77 : Ref sig .tc := ⟨.hbm, 153, rfl⟩
abbrev main_cst_14 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_cst_15 : Ref sig .tc := ⟨.hbm, 161, rfl⟩
abbrev main_v84 : Ref sig .tc := ⟨.hbm, 162, rfl⟩
abbrev main_cst_16 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_c_17 : Ref sig .tc := ⟨.hbm, 167, rfl⟩
abbrev main_v88 : Ref sig .tc := ⟨.hbm, 168, rfl⟩
abbrev main_v89 : Ref sig .tc := ⟨.hbm, 169, rfl⟩
abbrev main_c_18 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_c_19 : Ref sig .tc := ⟨.hbm, 178, rfl⟩
abbrev main_v97 : Ref sig .tc := ⟨.hbm, 179, rfl⟩
abbrev main_v98 : Ref sig .tc := ⟨.hbm, 180, rfl⟩
abbrev main_c_20 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_call5_cst : Ref sig .tc := ⟨.hbm, 188, rfl⟩
abbrev main_call5_v0 : Ref sig .tc := ⟨.hbm, 189, rfl⟩
abbrev main_v105 : Ref sig .tc := ⟨.hbm, 190, rfl⟩
abbrev main_cst_21 : Ref sig .tc := ⟨.hbm, 191, rfl⟩
abbrev main_v106 : Ref sig .tc := ⟨.hbm, 192, rfl⟩
abbrev main_cst_22 : Ref sig .tc := ⟨.hbm, 193, rfl⟩
abbrev main_v107 : Ref sig .tc := ⟨.hbm, 194, rfl⟩
abbrev main_cst_23 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_c_24 : Ref sig .tc := ⟨.hbm, 199, rfl⟩
abbrev main_v111 : Ref sig .tc := ⟨.hbm, 200, rfl⟩
abbrev main_v112 : Ref sig .tc := ⟨.hbm, 201, rfl⟩
abbrev main_c_25 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_c_26 : Ref sig .tc := ⟨.hbm, 210, rfl⟩
abbrev main_v120 : Ref sig .tc := ⟨.hbm, 211, rfl⟩
abbrev main_v121 : Ref sig .tc := ⟨.hbm, 212, rfl⟩
abbrev main_c_27 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_call6_v0 : Ref sig .tc := ⟨.hbm, 220, rfl⟩
abbrev main_call6_cst : Ref sig .tc := ⟨.hbm, 221, rfl⟩
abbrev main_call6_v1 : Ref sig .tc := ⟨.hbm, 222, rfl⟩
abbrev main_v128 : Ref sig .tc := ⟨.hbm, 223, rfl⟩
abbrev main_cst_28 : Ref sig .tc := ⟨.hbm, 224, rfl⟩
abbrev main_v129 : Ref sig .tc := ⟨.hbm, 225, rfl⟩
abbrev main_v130 : Ref sig .tc := ⟨.hbm, 226, rfl⟩
abbrev main_call7_cst : Ref sig .tc := ⟨.hbm, 227, rfl⟩
abbrev main_call7_v0 : Ref sig .tc := ⟨.hbm, 228, rfl⟩
abbrev main_v131 : Ref sig .tc := ⟨.hbm, 229, rfl⟩
abbrev main_cst_29 : Ref sig .tc := ⟨.hbm, 230, rfl⟩
abbrev main_v132 : Ref sig .tc := ⟨.hbm, 231, rfl⟩
abbrev main_cst_30 : Ref sig .tc := ⟨.hbm, 232, rfl⟩
abbrev main_v133 : Ref sig .tc := ⟨.hbm, 233, rfl⟩
abbrev main_v134 : Ref sig .tc := ⟨.hbm, 234, rfl⟩
abbrev main_cst_31 : Ref sig .tc := ⟨.hbm, 235, rfl⟩
abbrev main_v135 : Ref sig .tc := ⟨.hbm, 236, rfl⟩
abbrev main_v136 : Ref sig .tc := ⟨.hbm, 237, rfl⟩

abbrev nD : Nat := 1
abbrev τ : Topo := Topo.v7x

variable {F : FTy → Type} [FloatOps F]
-- ==== ReferenceIdeal.lean ====
abbrev S10000x128 : Shape := ⟨2, ![10000, 128]⟩
abbrev S10000x3 : Shape := ⟨2, ![10000, 3]⟩
abbrev S10000 : Shape := ⟨1, ![10000]⟩
abbrev S4x320000 : Shape := ⟨2, ![4, 320000]⟩
abbrev S320000x2 : Shape := ⟨2, ![320000, 2]⟩
abbrev S2x320000 : Shape := ⟨2, ![2, 320000]⟩
abbrev S40x128 : Shape := ⟨2, ![40, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S19 : Shape := ⟨1, ![19]⟩
abbrev S1 : Shape := ⟨1, ![1]⟩
abbrev S20 : Shape := ⟨1, ![20]⟩
abbrev S1x320000 : Shape := ⟨2, ![1, 320000]⟩
abbrev S320000 : Shape := ⟨1, ![320000]⟩
abbrev S320000x1 : Shape := ⟨2, ![320000, 1]⟩
abbrev S320000x3 : Shape := ⟨2, ![320000, 3]⟩
abbrev S1x20 : Shape := ⟨2, ![1, 20]⟩
abbrev S320000x20 : Shape := ⟨2, ![320000, 20]⟩
abbrev S10000x20 : Shape := ⟨2, ![10000, 20]⟩
abbrev S10000x40 : Shape := ⟨2, ![10000, 40]⟩
abbrev S10000x1 : Shape := ⟨2, ![10000, 1]⟩
abbrev S1x128 : Shape := ⟨2, ![1, 128]⟩
abbrev S1x40 : Shape := ⟨2, ![1, 40]⟩
abbrev S320000x128 : Shape := ⟨2, ![320000, 128]⟩

abbrev nBuf : Space → Nat
  | .hbm => 238
  | .vmem => 0
  | .smem => 0
  | _ => 0

abbrev hbmTy0_0 (i : Nat) : BufTy := match i % 128 with
  | 0 => ⟨S10000x128, .f32⟩
  | 1 => ⟨S10000x3, .f32⟩
  | 2 => ⟨S10000, .i32⟩
  | 3 => ⟨S4x320000, .i32⟩
  | 4 => ⟨S320000x2, .i32⟩
  | 5 => ⟨S320000x2, .i32⟩
  | 6 => ⟨S2x320000, .i32⟩
  | 7 => ⟨S40x128, .f32⟩
  | 8 => ⟨S128, .f32⟩
  | 9 => ⟨S128x128, .f32⟩
  | 10 => ⟨S128, .f32⟩
  | 11 => ⟨S128x40, .f32⟩
  | 12 => ⟨S40, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S19, .f32⟩
  | 21 => ⟨S_, .f32⟩
  | 22 => ⟨S19, .f32⟩
  | 23 => ⟨S19, .f32⟩
  | 24 => ⟨S1, .f32⟩
  | 25 => ⟨S_, .f32⟩
  | 26 => ⟨S19, .f32⟩
  | 27 => ⟨S19, .f32⟩
  | 28 => ⟨S19, .f32⟩
  | 29 => ⟨S19, .f32⟩
  | 30 => ⟨S1, .f32⟩
  | 31 => ⟨S19, .f32⟩
  | 32 => ⟨S19, .f32⟩
  | 33 => ⟨S19, .f32⟩
  | 34 => ⟨S1, .f32⟩
  | 35 => ⟨S20, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S19, .f32⟩
  | 44 => ⟨S_, .f32⟩
  | 45 => ⟨S19, .f32⟩
  | 46 => ⟨S19, .f32⟩
  | 47 => ⟨S1, .f32⟩
  | 48 => ⟨S_, .f32⟩
  | 49 => ⟨S19, .f32⟩
  | 50 => ⟨S19, .f32⟩
  | 51 => ⟨S19, .f32⟩
  | 52 => ⟨S19, .f32⟩
  | 53 => ⟨S1, .f32⟩
  | 54 => ⟨S19, .f32⟩
  | 55 => ⟨S19, .f32⟩
  | 56 => ⟨S19, .f32⟩
  | 57 => ⟨S1, .f32⟩
  | 58 => ⟨S20, .f32⟩
  | 59 => ⟨S1x320000, .i32⟩
  | 60 => ⟨S320000, .i32⟩
  | 61 => ⟨S1x320000, .i32⟩
  | 62 => ⟨S320000, .i32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x3, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x3, .f32⟩
  | 81 => ⟨S320000x3, .f32⟩
  | 82 => ⟨S320000x3, .f32⟩
  | 83 => ⟨S_, .f32⟩
  | 84 => ⟨S320000, .f32⟩
  | 85 => ⟨S320000, .f32⟩
  | 86 => ⟨S320000x1, .f32⟩
  | 87 => ⟨S320000, .f32⟩
  | 88 => ⟨S320000x1, .f32⟩
  | 89 => ⟨S320000, .f32⟩
  | 90 => ⟨S320000, .f32⟩
  | 91 => ⟨S320000, .f32⟩
  | 92 => ⟨S320000x1, .f32⟩
  | 93 => ⟨S1x20, .f32⟩
  | 94 => ⟨S320000x20, .f32⟩
  | 95 => ⟨S320000x20, .f32⟩
  | 96 => ⟨S320000x20, .f32⟩
  | 97 => ⟨S320000x20, .f32⟩
  | 98 => ⟨S_, .f32⟩
  | 99 => ⟨S320000x20, .f32⟩
  | 100 => ⟨S320000x20, .f32⟩
  | 101 => ⟨S320000x20, .f32⟩
  | 102 => ⟨S320000x1, .f32⟩
  | 103 => ⟨S1x20, .f32⟩
  | 104 => ⟨S320000x20, .f32⟩
  | 105 => ⟨S320000x20, .f32⟩
  | 106 => ⟨S320000x20, .f32⟩
  | 107 => ⟨S320000x20, .f32⟩
  | 108 => ⟨S_, .f32⟩
  | 109 => ⟨S320000x20, .f32⟩
  | 110 => ⟨S320000x20, .f32⟩
  | 111 => ⟨S320000x20, .f32⟩
  | 112 => ⟨S_, .f32⟩
  | 113 => ⟨S10000x20, .f32⟩
  | 114 => ⟨S320000x1, .i32⟩
  | 115 => ⟨S10000x20, .f32⟩
  | 116 => ⟨S_, .f32⟩
  | 117 => ⟨S10000x20, .f32⟩
  | 118 => ⟨S320000x1, .i32⟩
  | 119 => ⟨S10000x20, .f32⟩
  | 120 => ⟨S10000x40, .f32⟩
  | 121 => ⟨S10000x40, .f32⟩
  | 122 => ⟨S_, .f32⟩
  | 123 => ⟨S10000, .f32⟩
  | 124 => ⟨S10000x1, .f32⟩
  | 125 => ⟨S_, .f32⟩
  | 126 => ⟨S10000x1, .f32⟩
  | 127 => ⟨S10000x1, .f32⟩
  | _ => ⟨S10000x128, .f32⟩

abbrev hbmTy0_1 (i : Nat) : BufTy := match i % 128 with
  | 0 => ⟨S10000x40, .f32⟩
  | 1 => ⟨S10000x40, .f32⟩
  | 2 => ⟨S_, .f32⟩
  | 3 => ⟨S10000x40, .f32⟩
  | 4 => ⟨S10000x128, .f32⟩
  | 5 => ⟨S1x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x128, .f32⟩
  | 12 => ⟨S1x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S10000x40, .f32⟩
  | 19 => ⟨S1x40, .f32⟩
  | 20 => ⟨S10000x40, .f32⟩
  | 21 => ⟨S10000x40, .f32⟩
  | 22 => ⟨S10000x40, .f32⟩
  | 23 => ⟨S_, .f32⟩
  | 24 => ⟨S10000, .f32⟩
  | 25 => ⟨S10000x1, .f32⟩
  | 26 => ⟨S_, .f32⟩
  | 27 => ⟨S10000x1, .f32⟩
  | 28 => ⟨S10000x1, .f32⟩
  | 29 => ⟨S10000x40, .f32⟩
  | 30 => ⟨S10000x40, .f32⟩
  | 31 => ⟨S10000x40, .f32⟩
  | 32 => ⟨S10000x40, .f32⟩
  | 33 => ⟨S_, .f32⟩
  | 34 => ⟨S_, .f32⟩
  | 35 => ⟨S_, .f32⟩
  | 36 => ⟨S_, .f32⟩
  | 37 => ⟨S320000x1, .i32⟩
  | 38 => ⟨S320000, .i32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x128, .f32⟩
  | 48 => ⟨S320000x1, .i32⟩
  | 49 => ⟨S320000, .i32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x128, .f32⟩
  | 59 => ⟨S320000x128, .f32⟩
  | 60 => ⟨S_, .f32⟩
  | 61 => ⟨S320000x128, .f32⟩
  | 62 => ⟨S320000x128, .f32⟩
  | 63 => ⟨S_, .f32⟩
  | 64 => ⟨S320000, .f32⟩
  | 65 => ⟨S_, .f32⟩
  | 66 => ⟨S_, .f32⟩
  | 67 => ⟨S_, .f32⟩
  | 68 => ⟨S_, .f32⟩
  | 69 => ⟨S320000x1, .i32⟩
  | 70 => ⟨S320000, .i32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x128, .f32⟩
  | 80 => ⟨S320000x1, .i32⟩
  | 81 => ⟨S320000, .i32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x128, .f32⟩
  | 91 => ⟨S320000x128, .f32⟩
  | 92 => ⟨S320000x128, .f32⟩
  | 93 => ⟨S_, .f32⟩
  | 94 => ⟨S320000, .f32⟩
  | 95 => ⟨S320000, .f32⟩
  | 96 => ⟨S_, .f32⟩
  | 97 => ⟨S320000, .f32⟩
  | 98 => ⟨S320000, .f32⟩
  | 99 => ⟨S_, .f32⟩
  | 100 => ⟨S320000, .f32⟩
  | 101 => ⟨S320000, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v0 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_cst : Ref sig .tc := ⟨.hbm, 41, rfl⟩
abbrev main_call1_v3 : Ref sig .tc := ⟨.hbm, 42, rfl⟩
abbrev main_call1_v4 : Ref sig .tc := ⟨.hbm, 43, rfl⟩
abbrev main_call1_cst_0 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_cst_1 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_v15 : Ref sig .tc := ⟨.hbm, 56, rfl⟩
abbrev main_call1_v16 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_c : Ref sig .tc := ⟨.hbm, 63, rfl⟩
abbrev main_v6 : Ref sig .tc := ⟨.hbm, 64, rfl⟩
abbrev main_v7 : Ref sig .tc := ⟨.hbm, 65, rfl⟩
abbrev main_c_3 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_c_4 : Ref sig .tc := ⟨.hbm, 72, rfl⟩
abbrev main_v13 : Ref sig .tc := ⟨.hbm, 73, rfl⟩
abbrev main_v14 : Ref sig .tc := ⟨.hbm, 74, rfl⟩
abbrev main_c_5 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_call2_v0 : Ref sig .tc := ⟨.hbm, 82, rfl⟩
abbrev main_call2_cst : Ref sig .tc := ⟨.hbm, 83, rfl⟩
abbrev main_call2_v1 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_cst_6 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_7 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_cst_8 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_9 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_10 : Ref sig .tc := ⟨.hbm, 122, rfl⟩
abbrev main_v54 : Ref sig .tc := ⟨.hbm, 123, rfl⟩
abbrev main_v55 : Ref sig .tc := ⟨.hbm, 124, rfl⟩
abbrev main_cst_11 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_12 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_call3_cst : Ref sig .tc := ⟨.hbm, 136, rfl⟩
abbrev main_call3_v0 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_call4_cst : Ref sig .tc := ⟨.hbm, 143, rfl⟩
abbrev main_call4_v0 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_cst_13 : Ref sig .tc := ⟨.hbm, 151, rfl⟩
abbrev main_v76 : Ref sig .tc := ⟨.hbm, 152, rfl⟩
abbrev main_v77 : Ref sig .tc := ⟨.hbm, 153, rfl⟩
abbrev main_cst_14 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_cst_15 : Ref sig .tc := ⟨.hbm, 161, rfl⟩
abbrev main_v84 : Ref sig .tc := ⟨.hbm, 162, rfl⟩
abbrev main_cst_16 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_c_17 : Ref sig .tc := ⟨.hbm, 167, rfl⟩
abbrev main_v88 : Ref sig .tc := ⟨.hbm, 168, rfl⟩
abbrev main_v89 : Ref sig .tc := ⟨.hbm, 169, rfl⟩
abbrev main_c_18 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_c_19 : Ref sig .tc := ⟨.hbm, 178, rfl⟩
abbrev main_v97 : Ref sig .tc := ⟨.hbm, 179, rfl⟩
abbrev main_v98 : Ref sig .tc := ⟨.hbm, 180, rfl⟩
abbrev main_c_20 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_call5_cst : Ref sig .tc := ⟨.hbm, 188, rfl⟩
abbrev main_call5_v0 : Ref sig .tc := ⟨.hbm, 189, rfl⟩
abbrev main_v105 : Ref sig .tc := ⟨.hbm, 190, rfl⟩
abbrev main_cst_21 : Ref sig .tc := ⟨.hbm, 191, rfl⟩
abbrev main_v106 : Ref sig .tc := ⟨.hbm, 192, rfl⟩
abbrev main_cst_22 : Ref sig .tc := ⟨.hbm, 193, rfl⟩
abbrev main_v107 : Ref sig .tc := ⟨.hbm, 194, rfl⟩
abbrev main_cst_23 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_c_24 : Ref sig .tc := ⟨.hbm, 199, rfl⟩
abbrev main_v111 : Ref sig .tc := ⟨.hbm, 200, rfl⟩
abbrev main_v112 : Ref sig .tc := ⟨.hbm, 201, rfl⟩
abbrev main_c_25 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_c_26 : Ref sig .tc := ⟨.hbm, 210, rfl⟩
abbrev main_v120 : Ref sig .tc := ⟨.hbm, 211, rfl⟩
abbrev main_v121 : Ref sig .tc := ⟨.hbm, 212, rfl⟩
abbrev main_c_27 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_call6_v0 : Ref sig .tc := ⟨.hbm, 220, rfl⟩
abbrev main_call6_cst : Ref sig .tc := ⟨.hbm, 221, rfl⟩
abbrev main_call6_v1 : Ref sig .tc := ⟨.hbm, 222, rfl⟩
abbrev main_v128 : Ref sig .tc := ⟨.hbm, 223, rfl⟩
abbrev main_cst_28 : Ref sig .tc := ⟨.hbm, 224, rfl⟩
abbrev main_v129 : Ref sig .tc := ⟨.hbm, 225, rfl⟩
abbrev main_v130 : Ref sig .tc := ⟨.hbm, 226, rfl⟩
abbrev main_call7_cst : Ref sig .tc := ⟨.hbm, 227, rfl⟩
abbrev main_call7_v0 : Ref sig .tc := ⟨.hbm, 228, rfl⟩
abbrev main_v131 : Ref sig .tc := ⟨.hbm, 229, rfl⟩
abbrev main_cst_29 : Ref sig .tc := ⟨.hbm, 230, rfl⟩
abbrev main_v132 : Ref sig .tc := ⟨.hbm, 231, rfl⟩
abbrev main_cst_30 : Ref sig .tc := ⟨.hbm, 232, rfl⟩
abbrev main_v133 : Ref sig .tc := ⟨.hbm, 233, rfl⟩
abbrev main_v134 : Ref sig .tc := ⟨.hbm, 234, rfl⟩
abbrev main_cst_31 : Ref sig .tc := ⟨.hbm, 235, rfl⟩
abbrev main_v135 : Ref sig .tc := ⟨.hbm, 236, rfl⟩
abbrev main_v136 : Ref sig .tc := ⟨.hbm, 237, rfl⟩

abbrev nD : Nat := 1
abbrev τ : Topo := Topo.v7x

variable {F : FTy → Type} [FloatOps F]
-- ==== Proof.KernelHost.lean ====
/- The kernel's host operations before the pipelined region, read in five windows: the grids, the edge geometry, the
   histograms, the hidden layers, and the last window, which makes the growth loss and gathers the pairs' rows. Each
   window's results are stated over any contents; `V0_…` chains them from the launch memory. Where a stage is the one the
   reference computes with the same operations, it is named by the reference's own stage. -/
module

public import proofs.«01_k».proof.Defs
public import proofs.«01_k».proof.Proof.Gen.KernelIdeal.Frame
public import proofs.«01_k».proof.Proof.Gen.ReferenceIdeal.Read
public import Idealize.ShloMosaic.Lib.StableHlo.Run

@[expose] public section

noncomputable section

open Idealize.ShloMosaic Idealize.ShloMosaic.TcCoe Idealize.SL.Sem Idealize.ShloMosaic.StableHlo

namespace Cert.KernelIdeal.Host

open Cert.KernelIdeal Cert.KernelIdeal.Gen
open Cert.ReferenceIdeal.Read (val_main_v0 val_main_v1 val_main_v3 val_main_v20 val_main_v21 val_main_v94 val_main_v103
  val_main_v117 val_main_v126)

variable {F : FTy → Type} [FloatOps F]

/-! ## The kernel's own stages -/

/-- Each edge's angle in the plane of the first two coordinates, without its sign. -/
def angle (d : (⟨S320000x3, .f32⟩ : BufTy).Contents (Elt F)) : (⟨S320000, .f32⟩ : BufTy).Contents (Elt F) :=
  Host.absf (Host.atan2
    (shapeCast S320000 (extractStridedSlice S320000x1 ![0, 1] d slices_S320000x3_S320000x1_0_1) shapeCasts_S320000x1_S320000)
    (shapeCast S320000 (extractStridedSlice S320000x1 ![0, 0] d slices_S320000x3_S320000x1_0_0) shapeCasts_S320000x1_S320000))

/-- The response of each edge to a grid: the exponential of minus the squared difference to each grid point. -/
def rbf (d : (⟨S320000, .f32⟩ : BufTy).Contents (Elt F)) (grid : (⟨S20, .f32⟩ : BufTy).Contents (Elt F)) :
    (⟨S320000x20, .f32⟩ : BufTy).Contents (Elt F) :=
  let diff := subf (broadcastInDim S320000x20 ![0, 1] bcast_S320000x1_S320000x20_0_1
      (broadcastInDim S320000x1 ![0] bcast_S320000_S320000x1_0 d))
    (broadcastInDim S320000x20 ![0, 1] bcast_S1x20_S320000x20_0_1 (broadcastInDim S1x20 ![1] bcast_S20_S1x20_1 grid))
  Host.exp (Host.negf (mulf diff diff))

/-- The responses added up at each edge's source node. -/
def hist (src : (⟨S320000, .i32⟩ : BufTy).Contents (Elt F)) (e : (⟨S320000x20, .f32⟩ : BufTy).Contents (Elt F)) :
    (⟨S10000x20, .f32⟩ : BufTy).Contents (Elt F) :=
  Host.scatterAdd scatter_S10000x20_S320000x1_S320000x20_1_0_0_1
    (broadcastInDim S10000x20 ![] bcast_S_S10000x20 (constant S_ .f32 0x00000000#32))
    (broadcastInDim S320000x1 ![0] bcast_S320000_S320000x1_0 src) e

/-- Both histograms side by side, each row divided by the sum of its absolute values (at least the small constant). -/
def target (a b : (⟨S10000x20, .f32⟩ : BufTy).Contents (Elt F)) : (⟨S10000x40, .f32⟩ : BufTy).Contents (Elt F) :=
  let h := concatenate S10000x40 1 [⟨S10000x20, a⟩, ⟨S10000x20, b⟩] concatenates_S10000x20_S10000x20_S10000x40_d1
  Host.divf h (broadcastInDim S10000x40 ![0, 1] bcast_S10000x1_S10000x40_0_1
    (maximumf (broadcastInDim S10000x1 ![0] bcast_S10000_S10000x1_0
        (Host.reduceAdd (Host.absf h) (constant S_ .f32 0x00000000#32) reducesTo_S10000x40_S10000_d1 h_S_))
      (broadcastInDim S10000x1 ![] bcast_S_S10000x1 (constant S_ .f32 0x2B8CBCCC#32))))

/-- The second hidden layer, from a zero ancestor feature. -/
def layer (b1 : (⟨S128, .f32⟩ : BufTy).Contents (Elt F)) (w2 : (⟨S128x128, .f32⟩ : BufTy).Contents (Elt F))
    (b2 : (⟨S128, .f32⟩ : BufTy).Contents (Elt F)) : (⟨S128, .f32⟩ : BufTy).Contents (Elt F) :=
  maximumf (addf (Host.dotGeneral dot_S128_S128x128_S128_0_0_n_1_n_n none
      (maximumf b1 (broadcastInDim S128 ![] bcast_S_S128 (constant S_ .f32 0x00000000#32))) w2) b2)
    (broadcastInDim S128 ![] bcast_S_S128 (constant S_ .f32 0x00000000#32))

/-- The one predicted row, normalised. -/
def pred (h : (⟨S128, .f32⟩ : BufTy).Contents (Elt F)) (w3 : (⟨S128x40, .f32⟩ : BufTy).Contents (Elt F))
    (b3 : (⟨S40, .f32⟩ : BufTy).Contents (Elt F)) : (⟨S40, .f32⟩ : BufTy).Contents (Elt F) :=
  let z := addf (Host.dotGeneral dot_S128_S128x40_S40_0_0_n_1_n_n none h w3) b3
  Host.divf z (broadcastInDim S40 ![] bcast_S_S40
    (maximumf (Host.reduceAdd (Host.absf z) (constant S_ .f32 0x00000000#32) reducesTo_S40_S_d0 h_S_)
      (constant S_ .f32 0x2B8CBCCC#32)))

/-- The predicted row repeated for every node. -/
def rows (p : (⟨S40, .f32⟩ : BufTy).Contents (Elt F)) : (⟨S10000x40, .f32⟩ : BufTy).Contents (Elt F) :=
  broadcastInDim S10000x40 ![0, 1] bcast_S1x40_S10000x40_0_1 (broadcastInDim S1x40 ![1] bcast_S40_S1x40_1 p)

/-- The growth loss: the mean absolute difference. -/
def growth (p g : (⟨S10000x40, .f32⟩ : BufTy).Contents (Elt F)) : (⟨S_, .f32⟩ : BufTy).Contents (Elt F) :=
  Host.divf (Host.reduceAdd (Host.absf (subf p g)) (constant S_ .f32 0x00000000#32) reducesTo_S10000x40_S_d0_1 h_S_)
    (constant S_ .f32 0x48C35000#32)

/-! ## The windows -/

/-- The operations of the two `linspace` grids. -/
abbrev opsP : List (HloOp τ sig (Elt F)) := List.flatten [hostOps0, hostOps0_1, hostOps0_2, hostOps0_3]
/-- The buffers they write. -/
abbrev wP : List (Ref sig .tc) := [
    main_cst, main_cst_0, main_call0_v0, main_call0_v1, main_call0_v2, main_call0_cst, main_call0_v3, main_call0_v4,
    main_call0_cst_0, main_call0_v5, main_call0_v6, main_call0_v7, main_call0_cst_1, main_call0_v8, main_call0_v9,
    main_call0_v10, main_call0_v11, main_call0_v12, main_call0_v13, main_call0_v14, main_call0_v15, main_call0_v16,
    main_v0, main_cst_1, main_cst_2, main_call1_v0, main_call1_v1, main_call1_v2, main_call1_cst, main_call1_v3,
    main_call1_v4, main_call1_cst_0, main_call1_v5, main_call1_v6, main_call1_v7, main_call1_cst_1, main_call1_v8,
    main_call1_v9, main_call1_v10, main_call1_v11, main_call1_v12, main_call1_v13, main_call1_v14, main_call1_v15,
    main_call1_v16, main_v1]
set_option maxRecDepth 8192 in
theorem opsP_writes : (opsP : List (HloOp τ sig (Elt F))).Forall fun op =>
    op.writes ⊆ (wP.map (Proc.devRef (τ := τ) .tc)).toFinset := by
  simp only [opsP, hostOps0, hostOps0_1, hostOps0_2, hostOps0_3, List.flatten_cons, List.flatten_nil, List.append_nil, List.cons_append,
    List.nil_append, List.Forall, nullary_writes, unary_writes, binary_writes, ternary_writes, reshape_writes,
    Finset.singleton_subset_iff, List.mem_toFinset]
  repeat' apply And.intro
  all_goals exact List.mem_map_of_mem (by decide)
theorem opsP_keep (V : Valuation τ sig (Elt F)) (r : Ref sig .tc) (h : r ∉ wP) :
    after opsP V (Proc.devRef .tc r) = V (Proc.devRef .tc r) :=
  after_of_writes_sub opsP V opsP_writes h

/-- The operations of the edges' displacements and lengths. -/
abbrev opsQ : List (HloOp τ sig (Elt F)) := List.flatten [hostOps0_4, hostOps0_5]
/-- The buffers they write. -/
abbrev wQ : List (Ref sig .tc) := [
    main_v2, main_v3, main_v4, main_v5, main_c, main_v6, main_v7, main_c_3, main_v8, main_v9, main_v10, main_v11,
    main_v12, main_c_4, main_v13, main_v14, main_c_5, main_v15, main_v16, main_v17, main_v18, main_v19, main_v20,
    main_call2_v0, main_call2_cst, main_call2_v1, main_v21]
set_option maxRecDepth 8192 in
theorem opsQ_writes : (opsQ : List (HloOp τ sig (Elt F))).Forall fun op =>
    op.writes ⊆ (wQ.map (Proc.devRef (τ := τ) .tc)).toFinset := by
  simp only [opsQ, hostOps0_4, hostOps0_5, List.flatten_cons, List.flatten_nil, List.append_nil, List.cons_append,
    List.nil_append, List.Forall, nullary_writes, unary_writes, binary_writes, ternary_writes, reshape_writes,
    Finset.singleton_subset_iff, List.mem_toFinset]
  repeat' apply And.intro
  all_goals exact List.mem_map_of_mem (by decide)
theorem opsQ_keep (V : Valuation τ sig (Elt F)) (r : Ref sig .tc) (h : r ∉ wQ) :
    after opsQ V (Proc.devRef .tc r) = V (Proc.devRef .tc r) :=
  after_of_writes_sub opsQ V opsQ_writes h

/-- The operations of the normalised histograms of each node's edges. -/
abbrev opsS : List (HloOp τ sig (Elt F)) := List.flatten [hostOps0_6]
/-- The buffers they write. -/
abbrev wS : List (Ref sig .tc) := [
    main_v22, main_v23, main_v24, main_v25, main_v26, main_v27, main_v28, main_v29, main_v30, main_v31, main_v32,
    main_v33, main_v34, main_v35, main_v36, main_v37, main_v38, main_v39, main_v40, main_v41, main_v42, main_v43,
    main_cst_6, main_v44, main_v45, main_v46, main_cst_7, main_v47, main_v48, main_v49, main_v50, main_v51,
    main_cst_8, main_v52, main_v53, main_cst_9, main_v54, main_v55, main_v56, main_v57]
set_option maxRecDepth 8192 in
theorem opsS_writes : (opsS : List (HloOp τ sig (Elt F))).Forall fun op =>
    op.writes ⊆ (wS.map (Proc.devRef (τ := τ) .tc)).toFinset := by
  simp only [opsS, hostOps0_6, List.flatten_cons, List.flatten_nil, List.append_nil, List.cons_append,
    List.nil_append, List.Forall, nullary_writes, unary_writes, binary_writes, ternary_writes, reshape_writes,
    Finset.singleton_subset_iff, List.mem_toFinset]
  repeat' apply And.intro
  all_goals exact List.mem_map_of_mem (by decide)
theorem opsS_keep (V : Valuation τ sig (Elt F)) (r : Ref sig .tc) (h : r ∉ wS) :
    after opsS V (Proc.devRef .tc r) = V (Proc.devRef .tc r) :=
  after_of_writes_sub opsS V opsS_writes h

/-- The operations of the two hidden layers. -/
abbrev opsT : List (HloOp τ sig (Elt F)) := List.flatten [hostOps0_7, hostOps0_8, hostOps0_9]
/-- The buffers they write. -/
abbrev wT : List (Ref sig .tc) := [
    main_call3_cst, main_call3_v0, main_v58, main_v59, main_v60, main_call4_cst, main_call4_v0, main_v61]
set_option maxRecDepth 8192 in
theorem opsT_writes : (opsT : List (HloOp τ sig (Elt F))).Forall fun op =>
    op.writes ⊆ (wT.map (Proc.devRef (τ := τ) .tc)).toFinset := by
  simp only [opsT, hostOps0_7, hostOps0_8, hostOps0_9, List.flatten_cons, List.flatten_nil, List.append_nil, List.cons_append,
    List.nil_append, List.Forall, nullary_writes, unary_writes, binary_writes, ternary_writes, reshape_writes,
    Finset.singleton_subset_iff, List.mem_toFinset]
  repeat' apply And.intro
  all_goals exact List.mem_map_of_mem (by decide)
theorem opsT_keep (V : Valuation τ sig (Elt F)) (r : Ref sig .tc) (h : r ∉ wT) :
    after opsT V (Proc.devRef .tc r) = V (Proc.devRef .tc r) :=
  after_of_writes_sub opsT V opsT_writes h

/-- The operations of the growth loss and the pairs' rows. -/
abbrev opsU : List (HloOp τ sig (Elt F)) := hostOps0_10

/-! ## What each window leaves -/

section Windows

variable (V : Valuation τ sig (Elt F))

set_option maxRecDepth 8192 in
theorem opsP_v0 : after opsP V (Proc.devRef .tc main_v0) =
    val_main_v0 (F := F) := by
  simp only [opsP, hostOps0, hostOps0_1, hostOps0_2, hostOps0_3, List.flatten_cons, List.flatten_nil, List.append_nil,
    List.cons_append, List.nil_append, TRef.binary, TRef.nullary, TRef.unary, TRef.toBuf, TRef.ofBuf, cast_eq]
  after_results_simp
  rfl

set_option maxRecDepth 8192 in
theorem opsP_v1 : after opsP V (Proc.devRef .tc main_v1) =
    val_main_v1 (F := F) := by
  simp only [opsP, hostOps0, hostOps0_1, hostOps0_2, hostOps0_3, List.flatten_cons, List.flatten_nil, List.append_nil,
    List.cons_append, List.nil_append, TRef.binary, TRef.nullary, TRef.unary, TRef.toBuf, TRef.ofBuf, cast_eq]
  after_results_simp
  rfl

set_option maxRecDepth 8192 in
theorem opsQ_v3 : after opsQ V (Proc.devRef .tc main_v3) =
    val_main_v3 (F := F) (V (Proc.devRef .tc main_arg6)) := by
  simp only [opsQ, hostOps0_4, hostOps0_5, List.flatten_cons, List.flatten_nil, List.append_nil,
    List.cons_append, List.nil_append, TRef.binary, TRef.nullary, TRef.unary, TRef.toBuf, TRef.ofBuf, cast_eq]
  after_results_simp
  rfl

set_option maxRecDepth 8192 in
theorem opsQ_v20 : after opsQ V (Proc.devRef .tc main_v20) =
    val_main_v20 (F := F) (V (Proc.devRef .tc main_arg1)) (V (Proc.devRef .tc main_arg6)) := by
  simp only [opsQ, hostOps0_4, hostOps0_5, List.flatten_cons, List.flatten_nil, List.append_nil,
    List.cons_append, List.nil_append, TRef.binary, TRef.nullary, TRef.unary, TRef.toBuf, TRef.ofBuf, cast_eq]
  after_results_simp
  rfl

set_option maxRecDepth 8192 in
theorem opsQ_v21 : after opsQ V (Proc.devRef .tc main_v21) =
    val_main_v21 (F := F) (V (Proc.devRef .tc main_arg1)) (V (Proc.devRef .tc main_arg6)) := by
  simp only [opsQ, hostOps0_4, hostOps0_5, List.flatten_cons, List.flatten_nil, List.append_nil,
    List.cons_append, List.nil_append, TRef.binary, TRef.nullary, TRef.unary, TRef.toBuf, TRef.ofBuf, cast_eq]
  after_results_simp
  rfl

set_option maxRecDepth 8192 in
theorem opsS_v57 : after opsS V (Proc.devRef .tc main_v57) =
    target (hist (V (Proc.devRef .tc main_v3)) (rbf (V (Proc.devRef .tc main_v21)) (V (Proc.devRef .tc main_v0))))
      (hist (V (Proc.devRef .tc main_v3)) (rbf (angle (V (Proc.devRef .tc main_v20))) (V (Proc.devRef .tc main_v1)))) := by
  simp only [opsS, hostOps0_6, List.flatten_cons, List.flatten_nil, List.append_nil,
    List.cons_append, List.nil_append, TRef.binary, TRef.nullary, TRef.unary, TRef.toBuf, TRef.ofBuf, cast_eq]
  after_results_simp
  rfl

set_option maxRecDepth 8192 in
theorem opsT_v61 : after opsT V (Proc.devRef .tc main_v61) =
    layer (V (Proc.devRef .tc main_arg8)) (V (Proc.devRef .tc main_arg9)) (V (Proc.devRef .tc main_arg10)) := by
  simp only [opsT, hostOps0_7, hostOps0_8, hostOps0_9, List.flatten_cons, List.flatten_nil, List.append_nil,
    List.cons_append, List.nil_append, TRef.binary, TRef.nullary, TRef.unary, TRef.toBuf, TRef.ofBuf, cast_eq]
  after_results_simp
  rfl

set_option maxRecDepth 8192 in
theorem opsU_v74 : after opsU V (Proc.devRef .tc main_v74) =
    growth (rows (pred (V (Proc.devRef .tc main_v61)) (V (Proc.devRef .tc main_arg11)) (V (Proc.devRef .tc main_arg12)))) (V (Proc.devRef .tc main_v57)) := by
  simp only [opsU, hostOps0_10, List.flatten_cons, List.flatten_nil, List.append_nil,
    List.cons_append, List.nil_append, TRef.binary, TRef.nullary, TRef.unary, TRef.toBuf, TRef.ofBuf, cast_eq]
  after_results_simp
  rfl

set_option maxRecDepth 8192 in
theorem opsU_v83 : after opsU V (Proc.devRef .tc main_v83) =
    val_main_v94 (F := F) (V (Proc.devRef .tc main_arg0)) (V (Proc.devRef .tc main_arg4)) := by
  simp only [opsU, hostOps0_10, List.flatten_cons, List.flatten_nil, List.append_nil,
    List.cons_append, List.nil_append, TRef.binary, TRef.nullary, TRef.unary, TRef.toBuf, TRef.ofBuf, cast_eq]
  after_results_simp
  rfl

set_option maxRecDepth 8192 in
theorem opsU_v92 : after opsU V (Proc.devRef .tc main_v92) =
    val_main_v103 (F := F) (V (Proc.devRef .tc main_arg0)) (V (Proc.devRef .tc main_arg4)) := by
  simp only [opsU, hostOps0_10, List.flatten_cons, List.flatten_nil, List.append_nil,
    List.cons_append, List.nil_append, TRef.binary, TRef.nullary, TRef.unary, TRef.toBuf, TRef.ofBuf, cast_eq]
  after_results_simp
  rfl

set_option maxRecDepth 8192 in
theorem opsU_v101 : after opsU V (Proc.devRef .tc main_v101) =
    val_main_v117 (F := F) (V (Proc.devRef .tc main_arg0)) (V (Proc.devRef .tc main_arg5)) := by
  simp only [opsU, hostOps0_10, List.flatten_cons, List.flatten_nil, List.append_nil,
    List.cons_append, List.nil_append, TRef.binary, TRef.nullary, TRef.unary, TRef.toBuf, TRef.ofBuf, cast_eq]
  after_results_simp
  rfl

set_option maxRecDepth 8192 in
theorem opsU_v110 : after opsU V (Proc.devRef .tc main_v110) =
    val_main_v126 (F := F) (V (Proc.devRef .tc main_arg0)) (V (Proc.devRef .tc main_arg5)) := by
  simp only [opsU, hostOps0_10, List.flatten_cons, List.flatten_nil, List.append_nil,
    List.cons_append, List.nil_append, TRef.binary, TRef.nullary, TRef.unary, TRef.toBuf, TRef.ofBuf, cast_eq]
  after_results_simp
  rfl

end Windows

/-! ## From the launch memory -/

variable (m : (ℓ : Loc nD τ sig) → Buf (Elt F) ℓ) (c : Dev nD)

theorem V0_split : V0 m c = after opsU (after opsT (after opsS (after opsQ (after opsP fun b => m (c, b))))) := by
  simp only [← after_append]
  rfl

/-- The normalised histograms, from the edge list and the positions. -/
def targetOf (x1 : (⟨S10000x3, .f32⟩ : BufTy).Contents (Elt F)) (x6 : (⟨S2x320000, .i32⟩ : BufTy).Contents (Elt F)) :
    (⟨S10000x40, .f32⟩ : BufTy).Contents (Elt F) :=
  target (hist (val_main_v3 (F := F) x6) (rbf (val_main_v21 (F := F) x1 x6) (val_main_v0 (F := F))))
    (hist (val_main_v3 (F := F) x6) (rbf (angle (val_main_v20 (F := F) x1 x6)) (val_main_v1 (F := F))))

theorem V_v74 : V m c main_v74 =
    growth (rows (pred (layer (m (c, Proc.devRef .tc main_arg8)) (m (c, Proc.devRef .tc main_arg9))
        (m (c, Proc.devRef .tc main_arg10)))
      (m (c, Proc.devRef .tc main_arg11)) (m (c, Proc.devRef .tc main_arg12))))
      (targetOf (m (c, Proc.devRef .tc main_arg1)) (m (c, Proc.devRef .tc main_arg6))) := by
  show V0 m c (Proc.devRef .tc main_v74) = _
  rw [V0_split, opsU_v74, opsT_v61]
  rw [opsT_keep _ main_arg11 (by decide), opsT_keep _ main_arg12 (by decide), opsT_keep _ main_v57 (by decide), opsS_v57]
  rw [opsS_keep _ main_arg8 (by decide), opsS_keep _ main_arg9 (by decide), opsS_keep _ main_arg10 (by decide),
    opsS_keep _ main_arg11 (by decide), opsS_keep _ main_arg12 (by decide)]
  rw [opsQ_v3, opsQ_v20, opsQ_v21, opsQ_keep _ main_v0 (by decide), opsQ_keep _ main_v1 (by decide), opsP_v0, opsP_v1]
  rw [opsQ_keep _ main_arg8 (by decide), opsQ_keep _ main_arg9 (by decide), opsQ_keep _ main_arg10 (by decide),
    opsQ_keep _ main_arg11 (by decide), opsQ_keep _ main_arg12 (by decide)]
  rw [opsP_keep _ main_arg1 (by decide), opsP_keep _ main_arg6 (by decide), opsP_keep _ main_arg8 (by decide),
    opsP_keep _ main_arg9 (by decide), opsP_keep _ main_arg10 (by decide), opsP_keep _ main_arg11 (by decide),
    opsP_keep _ main_arg12 (by decide)]
  rfl

/-- An argument no window writes is the launch's before the last window. -/
theorem before_U (r : Ref sig .tc) (hT : r ∉ wT) (hS : r ∉ wS) (hQ : r ∉ wQ) (hP : r ∉ wP) :
    after opsT (after opsS (after opsQ (after opsP fun b => m (c, b)))) (Proc.devRef .tc r) = m (c, Proc.devRef .tc r) := by
  rw [opsT_keep _ r hT, opsS_keep _ r hS, opsQ_keep _ r hQ, opsP_keep _ r hP]

theorem V_v83 : V m c main_v83 =
    val_main_v94 (F := F) (m (c, Proc.devRef .tc main_arg0)) (m (c, Proc.devRef .tc main_arg4)) := by
  show V0 m c (Proc.devRef .tc main_v83) = _
  rw [V0_split, opsU_v83, before_U m c main_arg0 (by decide) (by decide) (by decide) (by decide),
    before_U m c main_arg4 (by decide) (by decide) (by decide) (by decide)]

theorem V_v92 : V m c main_v92 =
    val_main_v103 (F := F) (m (c, Proc.devRef .tc main_arg0)) (m (c, Proc.devRef .tc main_arg4)) := by
  show V0 m c (Proc.devRef .tc main_v92) = _
  rw [V0_split, opsU_v92, before_U m c main_arg0 (by decide) (by decide) (by decide) (by decide),
    before_U m c main_arg4 (by decide) (by decide) (by decide) (by decide)]

theorem V_v101 : V m c main_v101 =
    val_main_v117 (F := F) (m (c, Proc.devRef .tc main_arg0)) (m (c, Proc.devRef .tc main_arg5)) := by
  show V0 m c (Proc.devRef .tc main_v101) = _
  rw [V0_split, opsU_v101, before_U m c main_arg0 (by decide) (by decide) (by decide) (by decide),
    before_U m c main_arg5 (by decide) (by decide) (by decide) (by decide)]

theorem V_v110 : V m c main_v110 =
    val_main_v126 (F := F) (m (c, Proc.devRef .tc main_arg0)) (m (c, Proc.devRef .tc main_arg5)) := by
  show V0 m c (Proc.devRef .tc main_v110) = _
  rw [V0_split, opsU_v110, before_U m c main_arg0 (by decide) (by decide) (by decide) (by decide),
    before_U m c main_arg5 (by decide) (by decide) (by decide) (by decide)]

end Cert.KernelIdeal.Host

end
-- ==== Proof.Growth.lean ====
/- The growth loss: the kernel's host operations and the reference's compute the same array. They differ in two places: the
   kernel negates a square where the reference multiplies it by minus one, and it computes the one predicted row once where
   the reference computes it for every node from a zero feature. -/
module

public import proofs.«01_k».proof.Proof.KernelHost
public import proofs.«01_k».proof.Proof.Gen.KeptIdeal.Read
public import Idealize.ShloMosaic.Lib.Pointwise

@[expose] public section

noncomputable section

open Idealize.ShloMosaic

namespace Cert.Growth

open Cert.KernelIdeal Cert.KernelIdeal.Gen Cert.KernelIdeal.Host
open Cert.ReferenceIdeal.Read

/-! ## The histograms -/

/-- The literal minus one. -/
theorem minus_one : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- Negating an array is multiplying it by an array of minus ones. -/
theorem neg_eq (z : (⟨S320000x20, .f32⟩ : BufTy).Contents (Elt Ideal)) (h : S_.BroadcastsInDim S320000x20 ![]) :
    Host.negf (F := Ideal) z
      = mulf (F := Ideal) (broadcastInDim S320000x20 ![] h (constant (F := Ideal) S_ .f32 0xBF800000#32)) z := by
  funext i
  idx_vars i
  pointwise []
  rw [minus_one, neg_mul, one_mul]

theorem target_eq (x1 : (⟨S10000x3, .f32⟩ : BufTy).Contents (Elt Ideal)) (x6 : (⟨S2x320000, .i32⟩ : BufTy).Contents (Elt Ideal)) :
    targetOf x1 x6 = val_main_v59 (F := Ideal) x1 x6 := by
  have h1 : rbf (val_main_v21 (F := Ideal) x1 x6) (val_main_v0 (F := Ideal)) = val_main_v36 (F := Ideal) x1 x6 := by
    unfold rbf
    dsimp only
    rw [neg_eq _ (by decide)]
    rfl
  have h2 : rbf (angle (val_main_v20 (F := Ideal) x1 x6)) (val_main_v1 (F := Ideal)) = val_main_v45 (F := Ideal) x1 x6 := by
    unfold rbf
    dsimp only
    rw [neg_eq _ (by decide)]
    rfl
  unfold targetOf
  rw [h1, h2]
  rfl

/-! ## The predicted row -/

variable (x7 : (⟨S40x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x40, .f32⟩ : BufTy).Contents (Elt Ideal)) (x12 : (⟨S40, .f32⟩ : BufTy).Contents (Elt Ideal))

/-- The reference's second hidden layer is, at every node, the one row the kernel computes. -/
theorem layer_eq (i : Fin 10000) (h : Fin 128) :
    val_main_v70 (F := Ideal) x7 x8 x9 x10 (ix2 i h) = layer (F := Ideal) x8 x9 x10 (ix1 h) := by
  pointwise [val_main_v70, val_main_v69, val_main_v68, val_main_v67, val_main_v66, val_main_v65, val_main_v64, val_main_v63,
    val_main_v62, val_main_v61, val_main_v60, val_main_cst_12, val_main_call3_cst, val_main_call3_v0, val_main_call4_cst,
    val_main_call4_v0, layer]
  simp only [zero_mul, Finset.sum_const_zero, zero_add]

/-- So its predicted rows are the kernel's one predicted row. -/
theorem rows_eq : rows (pred (layer (F := Ideal) x8 x9 x10) x11 x12) = val_main_v81 (F := Ideal) x7 x8 x9 x10 x11 x12 := by
  funext i
  idx_vars i
  pointwise [rows, pred, val_main_v81, val_main_v80, val_main_v79, val_main_v78, val_main_v77, val_main_v76, val_main_v75,
    val_main_v74, val_main_v73, val_main_v72, val_main_v71, val_main_cst_13, val_main_cst_14, layer_eq]

/-- The kernel's growth loss is the reference's. -/
theorem growth_eq (x1 : (⟨S10000x3, .f32⟩ : BufTy).Contents (Elt Ideal)) (x6 : (⟨S2x320000, .i32⟩ : BufTy).Contents (Elt Ideal)) :
    growth (rows (pred (layer (F := Ideal) x8 x9 x10) x11 x12)) (targetOf x1 x6)
      = val_main_v85 (F := Ideal) x1 x6 x7 x8 x9 x10 x11 x12 := by
  rw [rows_eq x7, target_eq]
  rfl

/-- And so is the growth loss of the reference over the kept pairs, whose operations are the same. -/
theorem kept_growth_eq (x1 : (⟨S10000x3, .f32⟩ : BufTy).Contents (Elt Ideal)) (x6 : (⟨S2x320000, .i32⟩ : BufTy).Contents (Elt Ideal)) :
    Cert.KeptIdeal.Read.val_main_v85 (F := Ideal) x1 x6 x7 x8 x9 x10 x11 x12
      = val_main_v85 (F := Ideal) x1 x6 x7 x8 x9 x10 x11 x12 := rfl

end Cert.Growth

end
-- ==== Proof.KernelAcc.lean ====
/- The kernel's accumulator: what one block of pairs adds to it, the blocks it reads, its value after the last block, and
   the array it is written back to. -/
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.KernelIdeal.Acc

open Cert.KernelIdeal Cert.KernelIdeal.Gen

theorem lane_lt (q : Fin 32) (l : Fin 128) : q.val * 128 + l.val < 4096 := by omega

/-- What one block of pairs adds to the accumulator: row 0 the positive pairs' order loss summed over the block's rows,
    lane by lane; row 1 the negative pairs' margin loss, pair `128 * q + lane` of the block for each `q`. -/
def part (hp hc hi hj : Vec Ideal S4096x128 .f32) (j : S2x128.Idx) : EReal :=
  if (j 0 : Nat) < 1 then ∑ r : Fin 4096, max (hc (ix2 r (j 1)) - hp (ix2 r (j 1))) 0
  else ∑ q : Fin 32, max (1 - Ideal.sqrt (∑ k : Fin 128,
    (hi (ix2 ⟨q * 128 + (j 1 : Nat), lane_lt q (j 1)⟩ k) - hj (ix2 ⟨q * 128 + (j 1 : Nat), lane_lt q (j 1)⟩ k))
      * (hi (ix2 ⟨q * 128 + (j 1 : Nat), lane_lt q (j 1)⟩ k) - hj (ix2 ⟨q * 128 + (j 1 : Nat), lane_lt q (j 1)⟩ k)))) 0

theorem pay2_apply (hp hc hi hj : Vec Ideal S4096x128 .f32) (acc : Vec Ideal S2x128 .f32) (j : S2x128.Idx) :
    k0_pay2 hc hp hi hj acc j = acc j + part hp hc hi hj j := by
  pointwise [k0_pay2, part]
  rfl

theorem pay1_apply (j : S2x128.Idx) : k0_pay1 (F := Ideal) j = 0 := by
  pointwise [k0_pay1]

variable (m : (ℓ : Loc nD τ sig) → Buf (Elt Ideal) ℓ)

theorem row_lt (t : Fin cfg0.N) (r : Fin 4096) : 4096 * t.val + r.val < 320000 := by
  have h : t.val < 78 := lt_of_lt_of_eq t.isLt (show cfg0.N = 78 from N_0)
  omega

/-- Row `r` of the block a window stages at point `t` is row `4096 * t + r` of its array. -/
theorem X0_0_apply (c : Dev nD) (t : Fin cfg0.N) (r : Fin 4096) (l : Fin 128) :
    X0_0 m c t (ix2 r l) = (V m c main_v83 : Vec Ideal S320000x128 .f32) (ix2 ⟨4096 * t.val + r.val, row_lt t r⟩ l) := by
  have hi : win0_0.index t 0 = t.val ∧ win0_0.index t 1 = 0 := by
    revert t; decide +kernel
  unfold X0_0 Pipeline.Window.fill
  rw [dif_pos (moved0_0 t _)]
  unfold iblk
  rw [View.read_apply]
  show V m c main_v83 _ = V m c main_v83 _
  congr 1
  funext a
  apply Fin.ext
  match a with
  | ⟨0, _⟩ => show win0_0.index t 0 * 4096 + 1 * r.val = 4096 * t.val + r.val; rw [hi.1]; omega
  | ⟨1, _⟩ => show win0_0.index t 1 * 128 + 1 * l.val = l.val; rw [hi.2]; omega

theorem X0_1_apply (c : Dev nD) (t : Fin cfg0.N) (r : Fin 4096) (l : Fin 128) :
    X0_1 m c t (ix2 r l) = (V m c main_v92 : Vec Ideal S320000x128 .f32) (ix2 ⟨4096 * t.val + r.val, row_lt t r⟩ l) := by
  have hi : win0_1.index t 0 = t.val ∧ win0_1.index t 1 = 0 := by
    revert t; decide +kernel
  unfold X0_1 Pipeline.Window.fill
  rw [dif_pos (moved0_1 t _)]
  unfold iblk
  rw [View.read_apply]
  show V m c main_v92 _ = V m c main_v92 _
  congr 1
  funext a
  apply Fin.ext
  match a with
  | ⟨0, _⟩ => show win0_1.index t 0 * 4096 + 1 * r.val = 4096 * t.val + r.val; rw [hi.1]; omega
  | ⟨1, _⟩ => show win0_1.index t 1 * 128 + 1 * l.val = l.val; rw [hi.2]; omega

theorem X0_2_apply (c : Dev nD) (t : Fin cfg0.N) (r : Fin 4096) (l : Fin 128) :
    X0_2 m c t (ix2 r l) = (V m c main_v101 : Vec Ideal S320000x128 .f32) (ix2 ⟨4096 * t.val + r.val, row_lt t r⟩ l) := by
  have hi : win0_2.index t 0 = t.val ∧ win0_2.index t 1 = 0 := by
    revert t; decide +kernel
  unfold X0_2 Pipeline.Window.fill
  rw [dif_pos (moved0_2 t _)]
  unfold iblk
  rw [View.read_apply]
  show V m c main_v101 _ = V m c main_v101 _
  congr 1
  funext a
  apply Fin.ext
  match a with
  | ⟨0, _⟩ => show win0_2.index t 0 * 4096 + 1 * r.val = 4096 * t.val + r.val; rw [hi.1]; omega
  | ⟨1, _⟩ => show win0_2.index t 1 * 128 + 1 * l.val = l.val; rw [hi.2]; omega

theorem X0_3_apply (c : Dev nD) (t : Fin cfg0.N) (r : Fin 4096) (l : Fin 128) :
    X0_3 m c t (ix2 r l) = (V m c main_v110 : Vec Ideal S320000x128 .f32) (ix2 ⟨4096 * t.val + r.val, row_lt t r⟩ l) := by
  have hi : win0_3.index t 0 = t.val ∧ win0_3.index t 1 = 0 := by
    revert t; decide +kernel
  unfold X0_3 Pipeline.Window.fill
  rw [dif_pos (moved0_3 t _)]
  unfold iblk
  rw [View.read_apply]
  show V m c main_v110 _ = V m c main_v110 _
  congr 1
  funext a
  apply Fin.ext
  match a with
  | ⟨0, _⟩ => show win0_3.index t 0 * 4096 + 1 * r.val = 4096 * t.val + r.val; rw [hi.1]; omega
  | ⟨1, _⟩ => show win0_3.index t 1 * 128 + 1 * l.val = l.val; rw [hi.2]; omega

theorem outs_apply (c : Dev nD) (t : Fin cfg0.N) (ht : t.val + 1 = cfg0.N) (j : S2x128.Idx) :
    outsAt0 m c t.val t.isLt j
      = 0 + ∑ p : Fin cfg0.N, part (X0_0 m c p) (X0_1 m c p) (X0_2 m c p) (X0_3 m c p) j := by
  rw [Pipeline.eq_sum_fin_of_reset_step_apply_last (fun n h => outsAt0 m c n h) 78 (fun _ => 0)
      (fun p j => part (X0_0 m c p) (X0_1 m c p) (X0_2 m c p) (X0_3 m c p) j)
      (fun t h j => by rw [outsAt0_A m c t h]; frame_out; rw [pay2_apply, pay1_apply])
      (fun t h j => by rw [outsAt0_B m c t h]; frame_out; rw [pay2_apply])
      (le_of_eq N_0) t ht j]

theorem last_lt : 77 < cfg0.N := lt_of_lt_of_eq (by decide) (show 78 = cfg0.N from N_0.symm)

/-- The accumulator after the last block, as contents of its array (one block is the array). -/
abbrev result (c : Dev nD) : Buf (Elt Ideal) ((c : Thread nD τ).loc main_v111) := outsAt0 m c 77 last_lt

theorem flushed_eq (c : Dev nD) (t : Fin cfg0.N) (hf : (cfg0.win 4).flush t = true) :
    (dats m 0 c).flushed 4 t = ((cfg0.win 4).blk t).view.read (Elt Ideal) (result m c) := by
  have hN : cfg0.N = 78 := N_0
  have h77 : t.val = 77 := by have := (flush0_4 t).mp hf; have := t.isLt; omega
  obtain rfl : t = ⟨77, last_lt⟩ := Fin.ext h77
  show (cfg0.win 4).cut (grid0.coords ⟨77, last_lt⟩) ((dats m 0 c).after 4 ⟨77, last_lt⟩) = _
  rw [after0_4]
  have hz : (fun a => win0_4.index ⟨77, last_lt⟩ a * main_v111.ty.shape.size a) = fun _ => 0 :=
    funext fun a => by fin_cases a <;> decide
  exact (Memref.read_access_unit_zero (Elt Ideal) main_v111 hz (fun a => by rw [congrFun hz a]; simp) (result m c)).symm

/-- The array ends at the accumulator after the last block. -/
theorem final (c : Dev nD) : (dats m 0 c).arrAt 4 cfg0.N = result m c :=
  (dats m 0 c).arrAt_eq_of_cover 4 (result m c) (flushed_eq m c) fun i =>
    ⟨⟨77, last_lt⟩, (flush0_4 _).mpr rfl, by
      show i ∈ ((View.whole main_v111).slice (win0_4.rect ⟨77, last_lt⟩)).set
      rw [View.set_slice_whole, Rect.mem_set_unit]
      intro a
      have h0 : (i 0 : Nat) < 2 := (i 0).isLt
      have h1 : (i 1 : Nat) < 128 := (i 1).isLt
      match a with
      | ⟨0, _⟩ =>
        show win0_4.index ⟨77, last_lt⟩ 0 * win0_4.size 0 ≤ (i 0 : Nat)
          ∧ (i 0 : Nat) < win0_4.index ⟨77, last_lt⟩ 0 * win0_4.size 0 + win0_4.xsize (grid0.coords ⟨77, last_lt⟩) 0
        rw [show win0_4.index ⟨77, last_lt⟩ 0 * win0_4.size 0 = 0 from by decide +kernel,
          show win0_4.xsize (grid0.coords ⟨77, last_lt⟩) 0 = 2 from by decide +kernel]
        omega
      | ⟨1, _⟩ =>
        show win0_4.index ⟨77, last_lt⟩ 1 * win0_4.size 1 ≤ (i 1 : Nat)
          ∧ (i 1 : Nat) < win0_4.index ⟨77, last_lt⟩ 1 * win0_4.size 1 + win0_4.xsize (grid0.coords ⟨77, last_lt⟩) 1
        rw [show win0_4.index ⟨77, last_lt⟩ 1 * win0_4.size 1 = 0 from by decide +kernel,
          show win0_4.xsize (grid0.coords ⟨77, last_lt⟩) 1 = 128 from by decide +kernel]
        omega⟩

/-- It holds, cell by cell, the sum over the blocks of what each adds. -/
theorem result_apply (c : Dev nD) (j : S2x128.Idx) :
    (result m c : Vec Ideal S2x128 .f32) j = ∑ p : Fin cfg0.N, part (X0_0 m c p) (X0_1 m c p) (X0_2 m c p) (X0_3 m c p) j := by
  refine (outs_apply m c ⟨77, last_lt⟩ (show 77 + 1 = cfg0.N from N_0.symm) j).trans ?_
  rw [zero_add]

end Cert.KernelIdeal.Acc

end
-- ==== Proof.KernelRun.lean ====
/- The kernel's run: the result is the growth loss read before the region plus the mean losses read from the accumulator's
   two rows after it; the arguments end as launched and every counter at zero. -/
module

public import proofs.«01_k».proof.Proof.KernelHost
public import proofs.«01_k».proof.Proof.KernelAcc

@[expose] public section

noncomputable section

open Idealize.ShloMosaic Idealize.ShloMosaic.TcCoe Idealize.SL.Sem Idealize.ShloMosaic.StableHlo

namespace Cert.KernelIdeal.Run

open Cert.KernelIdeal Cert.KernelIdeal.Gen

/-- The growth loss plus the weighted sum of the two mean losses. -/
def total (e p n : (⟨S_, .f32⟩ : BufTy).Contents (Elt Ideal)) : (⟨S_, .f32⟩ : BufTy).Contents (Elt Ideal) :=
  addf (F := Ideal) e (mulf (F := Ideal) (constant S_ .f32 0x3F800000#32)
    (addf (F := Ideal) (Host.divf (F := Ideal) p (constant S_ .f32 0x489C4000#32)) (Host.divf (F := Ideal) n (constant S_ .f32 0x489C4000#32))))

/-- The accumulator's first row added up. -/
def row0 (acc : (⟨S2x128, .f32⟩ : BufTy).Contents (Elt Ideal)) : (⟨S_, .f32⟩ : BufTy).Contents (Elt Ideal) :=
  Host.reduceAdd (F := Ideal) (shapeCast S128 (extractStridedSlice S1x128 ![0, 0] acc slices_S2x128_S1x128_0_0) shapeCasts_S1x128_S128)
    (constant S_ .f32 0x00000000#32) reducesTo_S128_S_d0 h_S_

/-- The accumulator's second row added up. -/
def row1 (acc : (⟨S2x128, .f32⟩ : BufTy).Contents (Elt Ideal)) : (⟨S_, .f32⟩ : BufTy).Contents (Elt Ideal) :=
  Host.reduceAdd (F := Ideal) (shapeCast S128 (extractStridedSlice S1x128 ![1, 0] acc slices_S2x128_S1x128_1_0) shapeCasts_S1x128_S128)
    (constant S_ .f32 0x00000000#32) reducesTo_S128_S_d0 h_S_

theorem tail_v122 (V : Valuation τ sig (Elt Ideal)) : after hostOps1 V (Proc.devRef .tc main_v122) =
    total (V (Proc.devRef .tc main_v74)) (row0 (V (Proc.devRef .tc main_v111))) (row1 (V (Proc.devRef .tc main_v111))) := by
  simp only [hostOps1]
  after_results_simp
  rfl

theorem arrRef_inj : Function.Injective (Pipeline.arrRef spec0) := by
  intro a b h
  revert a b
  decide

variable (m : (ℓ : Loc nD τ sig) → Buf (Elt Ideal) ℓ) (ρ : Dev nD → PrngReg)

theorem tail_read (c : Dev nD) : Pipeline.afterTail₀ cfgs (dats m) 0 (V0 m) [hostOps1] c main_v122 =
    total (V m c main_v74) (row0 (Acc.result m c)) (row1 (Acc.result m c)) := by
  unfold Pipeline.afterTail₀
  rw [List.flatten_cons, List.flatten_nil, List.append_nil, tail_v122]
  have h74 := Pipeline.withArrays_of_ne spec0 c (V0 m c) (fun w => (dats m 0 c).arrAt w cfg0.N) main_v74 (by decide)
  have h111 := Pipeline.withArrays_arr spec0 arrRef_inj c (V0 m c) (fun w => (dats m 0 c).arrAt w cfg0.N) 4
  rw [Acc.final] at h111
  exact congrArg₂ (fun a b => total a (row0 b) (row1 b)) h74 h111

/-- Every execution ends with the result read as above and the arguments as launched. -/
theorem run : θ_run defs (onTc (τ := τ) (main (F := Ideal))) ⟨m, fun _ => 0, ρ⟩ fun r => ∀ c : Dev nD,
      r.2.mem ((c.tc : Thread nD τ).loc main_v122) = total (V m c main_v74) (row0 (Acc.result m c)) (row1 (Acc.result m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨((h c).2 main_v122 (Pipeline.mem_restRefs_of main_v122 (by decide) (by decide))).trans (tail_read m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Run

end
-- ==== Proof.Rows.lean ====
/- The rows a pair picks out of the embeddings, and what a pair costs: the two mean losses' sums of the reference, over all
   pairs and over the kept ones, as sums of those costs. -/
module

public import proofs.«01_k».proof.Defs
public import proofs.«01_k».proof.Proof.Gen.ReferenceIdeal.Read
public import proofs.«01_k».proof.Proof.Gen.KeptIdeal.Read
public import Idealize.ShloMosaic.Lib.Pointwise

@[expose] public section

noncomputable section

open Idealize.ShloMosaic

namespace Cert.Rows

/-! ## A row gather, read at an index -/

section Gather
variable {α : Type}

/-- One row of an `[N, C]` operand per start index. -/
abbrev rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Row `b` of the result is the operand's row at start index `b`, read signed and clamped to the last row. -/
theorem gather_row {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (l : Fin C) :
    Host.gather (rowDims N C B wf) x idx (ix2 b l) = x (ix2 ⟨min (idx (ix2 b 0)).toInt.toNat (N - 1), by omega⟩ l) := by
  unfold Host.gather
  congr 1
  funext a
  refine Fin.ext ?_
  show (rowDims N C B wf).start (ix2 b l) idx a + (rowDims N C B wf).batchCoord (ix2 b l) a
    + (rowDims N C B wf).offCoord (ix2 b l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hs : (rowDims N C B wf).siIdx (ix2 b l) ⟨List.idxOf (0 : Fin 2) (rowDims N C B wf).startIndexMap,
        List.idxOf_lt_length_iff.2 (List.mem_singleton.mpr rfl)⟩ = ix2 b 0 := by
      funext d; refine Fin.ext ?_
      match d with
      | ⟨0, _⟩ => rfl
      | ⟨1, _⟩ => rfl
    rw [hs]
    rfl
  · have h1 : (rowDims N C B wf).start (ix2 b l) idx 1 = 0 := by
      unfold GatherDims.start
      rw [dif_neg (show (1 : Fin 2) ∉ (rowDims N C B wf).startIndexMap from by simp)]
    have h2 : (rowDims N C B wf).offCoord (ix2 b l) 1 = l.val := by
      unfold GatherDims.offCoord
      rw [dif_pos (show (1 : Fin 2) ∈ (rowDims N C B wf).sKept from (GatherDims.mem_sKept _ _).mpr ⟨by simp, by simp⟩)]
      rfl
    exact (congrArg₂ (fun s o => s + 0 + o) h1 h2).trans (by simp)

end Gather

/-! ## A pair's rows and its costs -/

/-- A node index as array indexing reads it: a negative one counts from the end. -/
def wrap (v : BitVec 32) : BitVec 32 := Scalar.select (IntOp.cmpi .slt v 0#32) (IntOp.addi v 10000#32) v

/-- Entry `l` of the row a start index names, clamped to the last row. -/
def row (x : Vec Ideal ⟨2, ![10000, 128]⟩ .f32) (v : BitVec 32) (l : Fin 128) : EReal :=
  x (ix2 ⟨min v.toInt.toNat (10000 - 1), by omega⟩ l)

/-- Entry `l` of the embedding of a pair's node `k`. -/
def pick (x : Vec Ideal ⟨2, ![10000, 128]⟩ .f32) (ix : IVec ⟨2, ![320000, 2]⟩ 32) (k : Fin 2) (p : Fin 320000) (l : Fin 128) :
    EReal :=
  row x (wrap (ix (ix2 p k))) l

/-- The rows gathered for the nodes `k` of the pairs from `off` on: a slice of the pair array, flattened, its negative
    indices wrapped, one row each. -/
theorem gathered {B off k : Nat} (hB : off + B ≤ 320000) (hk : k < 2)
    (wf : GatherDims.WF ⟨2, ![10000, 128]⟩ ⟨2, ![B, 1]⟩ ⟨2, ![B, 128]⟩ [1] [0] [] [0] [] 1 ![1, 128])
    (hs : (⟨2, ![320000, 2]⟩ : Shape).Slices ![off, k] ⟨2, ![B, 1]⟩) (hc : (⟨2, ![B, 1]⟩ : Shape).ShapeCasts ⟨1, ![B]⟩)
    (h0 : (⟨0, ![]⟩ : Shape).BroadcastsInDim ⟨1, ![B]⟩ (![] : Fin 0 → Fin (⟨1, ![B]⟩ : Shape).rank))
    (h1 : (⟨1, ![B]⟩ : Shape).BroadcastsInDim ⟨2, ![B, 1]⟩ (![0] : Fin 1 → Fin (⟨2, ![B, 1]⟩ : Shape).rank))
    (x : Vec Ideal ⟨2, ![10000, 128]⟩ .f32) (ix : IVec ⟨2, ![320000, 2]⟩ 32) (b : Fin B) (l : Fin 128) :
    Host.gather (rowDims 10000 128 B wf) x (broadcastInDim ⟨2, ![B, 1]⟩ ![0] h1
      (select (cmpi .slt (shapeCast ⟨1, ![B]⟩ (extractStridedSlice ⟨2, ![B, 1]⟩ ![off, k] ix hs) hc)
          (broadcastInDim ⟨1, ![B]⟩ ![] h0 (constantI ⟨0, ![]⟩ 32 0#32)))
        (addi (shapeCast ⟨1, ![B]⟩ (extractStridedSlice ⟨2, ![B, 1]⟩ ![off, k] ix hs) hc)
          (broadcastInDim ⟨1, ![B]⟩ ![] h0 (constantI ⟨0, ![]⟩ 32 10000#32)))
        (shapeCast ⟨1, ![B]⟩ (extractStridedSlice ⟨2, ![B, 1]⟩ ![off, k] ix hs) hc))) (ix2 b l)
      = pick x ix ⟨k, hk⟩ ⟨off + b.val, by omega⟩ l := by
  refine (gather_row (by decide) wf x _ b l).trans (congrArg (fun v => row x v l) ?_)
  rw [broadcastInDim_apply _ h1 _ (ix2 b 0) (ix1 b) (fun a => match a with
    | ⟨0, _⟩ => by show b.val = if B = 1 then 0 else b.val; split <;> omega)]
  have hv : shapeCast ⟨1, ![B]⟩ (extractStridedSlice ⟨2, ![B, 1]⟩ ![off, k] ix hs) hc (ix1 b)
      = ix (ix2 ⟨off + b.val, by omega⟩ ⟨k, hk⟩) := by
    rw [shapeCast_apply _ hc (ix1 b) (ix2 b 0)
      (by rewrite [Shape.rowMajor_val_two, Shape.rowMajor_val_one]; show b.val * 1 + 0 = b.val; omega)]
    exact extractStridedSlice_apply _ ix hs (ix2 b 0) _ (fun a => match a with
      | ⟨0, _⟩ => rfl
      | ⟨1, _⟩ => rfl)
  have hz (w : BitVec 32) : broadcastInDim ⟨1, ![B]⟩ ![] h0 (constantI ⟨0, ![]⟩ 32 w) (ix1 b) = w :=
    broadcastInDim_apply _ h0 _ (ix1 b) (fun a => a.elim0) (fun a => a.elim0)
  show Scalar.select (IntOp.cmpi .slt (shapeCast _ _ hc (ix1 b)) (broadcastInDim _ _ h0 _ (ix1 b)))
    (IntOp.addi (shapeCast _ _ hc (ix1 b)) (broadcastInDim _ _ h0 _ (ix1 b))) (shapeCast _ _ hc (ix1 b)) = _
  rw [hv, hz, hz]
  rfl

/-- A positive pair's cost: how far the child's embedding exceeds the parent's, added over the entries. -/
def pos (x : Vec Ideal ⟨2, ![10000, 128]⟩ .f32) (ix : IVec ⟨2, ![320000, 2]⟩ 32) (p : Fin 320000) : EReal :=
  ∑ l : Fin 128, max (pick x ix 1 p l - pick x ix 0 p l) 0

/-- A negative pair's distance. -/
def apart (x : Vec Ideal ⟨2, ![10000, 128]⟩ .f32) (ix : IVec ⟨2, ![320000, 2]⟩ 32) (p : Fin 320000) : EReal :=
  Ideal.sqrt (∑ k : Fin 128, (pick x ix 0 p k - pick x ix 1 p k) * (pick x ix 0 p k - pick x ix 1 p k))

/-- A negative pair's cost: how far its distance stays below one. -/
def neg (x : Vec Ideal ⟨2, ![10000, 128]⟩ .f32) (ix : IVec ⟨2, ![320000, 2]⟩ 32) (p : Fin 320000) : EReal :=
  max (1 - apart x ix p) 0

end Cert.Rows

/-! ## The reference over all pairs -/

namespace Cert.Rows.All

open Cert.ReferenceIdeal Cert.ReferenceIdeal.Gen Cert.ReferenceIdeal.Read

variable (x : (⟨S10000x128, .f32⟩ : BufTy).Contents (Elt Ideal)) (ix : (⟨S320000x2, .i32⟩ : BufTy).Contents (Elt Ideal))

theorem v94_apply (p : Fin 320000) (l : Fin 128) : val_main_v94 (F := Ideal) x ix (ix2 p l) = pick x ix 0 p l :=
  (gathered (off := 0) (k := 0) (by decide) (by decide) _ _ _ _ _ x ix p l).trans (by simp only [Nat.zero_add]; rfl)
theorem v103_apply (p : Fin 320000) (l : Fin 128) : val_main_v103 (F := Ideal) x ix (ix2 p l) = pick x ix 1 p l :=
  (gathered (off := 0) (k := 1) (by decide) (by decide) _ _ _ _ _ x ix p l).trans (by simp only [Nat.zero_add]; rfl)
theorem v117_apply (p : Fin 320000) (l : Fin 128) : val_main_v117 (F := Ideal) x ix (ix2 p l) = pick x ix 0 p l :=
  (gathered (off := 0) (k := 0) (by decide) (by decide) _ _ _ _ _ x ix p l).trans (by simp only [Nat.zero_add]; rfl)
theorem v126_apply (p : Fin 320000) (l : Fin 128) : val_main_v126 (F := Ideal) x ix (ix2 p l) = pick x ix 1 p l :=
  (gathered (off := 0) (k := 1) (by decide) (by decide) _ _ _ _ _ x ix p l).trans (by simp only [Nat.zero_add]; rfl)

theorem v107_apply (i : S_.Idx) : val_main_v107 (F := Ideal) x ix i = ∑ p : Fin 320000, pos x ix p := by
  pointwise [val_main_v107, val_main_v106, val_main_v105, val_main_v104, val_main_cst_21, val_main_cst_22,
    val_main_call5_v0, val_main_call5_cst, pos, v94_apply, v103_apply]

theorem v132_apply (i : S_.Idx) : val_main_v132 (F := Ideal) x ix i = ∑ p : Fin 320000, neg x ix p := by
  pointwise [val_main_v132, val_main_v131, val_main_v130, val_main_v129, val_main_v128, val_main_v127, val_main_call6_v1,
    val_main_call6_v0, val_main_call6_cst, val_main_call7_v0, val_main_call7_cst, val_main_cst_28, val_main_cst_29, neg, apart,
    v117_apply, v126_apply]

end Cert.Rows.All

/-! ## The reference over the kept pairs -/

namespace Cert.Rows.Some

open Cert.KeptIdeal Cert.KeptIdeal.Gen Cert.KeptIdeal.Read

/-- A kept pair among all pairs. -/
abbrev kept (p : Fin 319488) : Fin 320000 := ⟨p.val, by omega⟩

variable (x : (⟨S10000x128, .f32⟩ : BufTy).Contents (Elt Ideal)) (ix : (⟨S320000x2, .i32⟩ : BufTy).Contents (Elt Ideal))

theorem v94_apply (p : Fin 319488) (l : Fin 128) : val_main_v94 (F := Ideal) x ix (ix2 p l) = pick x ix 0 (kept p) l :=
  (gathered (off := 0) (k := 0) (by decide) (by decide) _ _ _ _ _ x ix p l).trans (by simp only [Nat.zero_add]; rfl)
theorem v103_apply (p : Fin 319488) (l : Fin 128) : val_main_v103 (F := Ideal) x ix (ix2 p l) = pick x ix 1 (kept p) l :=
  (gathered (off := 0) (k := 1) (by decide) (by decide) _ _ _ _ _ x ix p l).trans (by simp only [Nat.zero_add]; rfl)
theorem v117_apply (p : Fin 319488) (l : Fin 128) : val_main_v117 (F := Ideal) x ix (ix2 p l) = pick x ix 0 (kept p) l :=
  (gathered (off := 0) (k := 0) (by decide) (by decide) _ _ _ _ _ x ix p l).trans (by simp only [Nat.zero_add]; rfl)
theorem v126_apply (p : Fin 319488) (l : Fin 128) : val_main_v126 (F := Ideal) x ix (ix2 p l) = pick x ix 1 (kept p) l :=
  (gathered (off := 0) (k := 1) (by decide) (by decide) _ _ _ _ _ x ix p l).trans (by simp only [Nat.zero_add]; rfl)

theorem v107_apply (i : S_.Idx) : val_main_v107 (F := Ideal) x ix i = ∑ p : Fin 319488, pos x ix (kept p) := by
  pointwise [val_main_v107, val_main_v106, val_main_v105, val_main_v104, val_main_cst_21, val_main_cst_22,
    val_main_call5_v0, val_main_call5_cst, pos, v94_apply, v103_apply]

theorem v132_apply (i : S_.Idx) : val_main_v132 (F := Ideal) x ix i = ∑ p : Fin 319488, neg x ix (kept p) := by
  pointwise [val_main_v132, val_main_v131, val_main_v130, val_main_v129, val_main_v128, val_main_v127, val_main_call6_v1,
    val_main_call6_v0, val_main_call6_cst, val_main_call7_v0, val_main_call7_cst, val_main_cst_28, val_main_cst_29, neg, apart,
    v117_apply, v126_apply]

end Cert.Rows.Some

end
-- ==== Proof.Sums.lean ====
/- The accumulator's two rows, added up, are the costs of the kept pairs added up: the blocks of 4096 pairs, one per grid
   point, are the pairs below 78 * 4096 in order. -/
module

public import proofs.«01_k».proof.Proof.KernelRun
public import proofs.«01_k».proof.Proof.Rows

@[expose] public section

noncomputable section

open Idealize.ShloMosaic Idealize.ShloMosaic.TcCoe Idealize.SL.Sem

namespace Cert.Sums

open Cert.KernelIdeal Cert.KernelIdeal.Gen Cert.KernelIdeal.Host Cert.KernelIdeal.Acc Cert.KernelIdeal.Run
open Cert.Rows (pick pos neg apart)
open Cert.Rows.Some (kept)

theorem row0_apply (acc : (⟨S2x128, .f32⟩ : BufTy).Contents (Elt Ideal)) (i : S_.Idx) :
    row0 acc i = ∑ l : Fin 128, acc (ix2 0 l) := by
  pointwise [row0]

theorem row1_apply (acc : (⟨S2x128, .f32⟩ : BufTy).Contents (Elt Ideal)) (i : S_.Idx) :
    row1 acc i = ∑ l : Fin 128, acc (ix2 1 l) := by
  pointwise [row1]

theorem part_row0 (hp hc hi hj : Vec Ideal S4096x128 .f32) (l : Fin 128) :
    part hp hc hi hj (ix2 0 l) = ∑ r : Fin 4096, max (hc (ix2 r l) - hp (ix2 r l)) 0 :=
  if_pos Nat.zero_lt_one

theorem part_row1 (hp hc hi hj : Vec Ideal S4096x128 .f32) (l : Fin 128) :
    part hp hc hi hj (ix2 1 l) = ∑ q : Fin 32, max (1 - Ideal.sqrt (∑ k : Fin 128,
      (hi (ix2 ⟨q.val * 128 + l.val, lane_lt q l⟩ k) - hj (ix2 ⟨q.val * 128 + l.val, lane_lt q l⟩ k))
        * (hi (ix2 ⟨q.val * 128 + l.val, lane_lt q l⟩ k) - hj (ix2 ⟨q.val * 128 + l.val, lane_lt q l⟩ k)))) 0 :=
  if_neg (lt_irrefl 1)

variable (m : (ℓ : Loc nD τ sig) → Buf (Elt Ideal) ℓ) (c : Dev nD)

/-- The launch's embeddings, positive pairs and negative pairs. -/
abbrev emb : Vec Ideal S10000x128 .f32 := m (c, Proc.devRef .tc main_arg0)
abbrev posIx : IVec S320000x2 32 := m (c, Proc.devRef .tc main_arg4)
abbrev negIx : IVec S320000x2 32 := m (c, Proc.devRef .tc main_arg5)

/-- Row `r` of the four blocks staged at point `t`: the rows pair `4096 * t + r` picks. -/
theorem parent_apply (t : Fin cfg0.N) (r : Fin 4096) (l : Fin 128) :
    X0_0 m c t (ix2 r l) = pick (emb m c) (posIx m c) 0 ⟨4096 * t.val + r.val, row_lt t r⟩ l := by
  rw [X0_0_apply, V_v83]; exact Rows.All.v94_apply _ _ _ l
theorem child_apply (t : Fin cfg0.N) (r : Fin 4096) (l : Fin 128) :
    X0_1 m c t (ix2 r l) = pick (emb m c) (posIx m c) 1 ⟨4096 * t.val + r.val, row_lt t r⟩ l := by
  rw [X0_1_apply, V_v92]; exact Rows.All.v103_apply _ _ _ l
theorem left_apply (t : Fin cfg0.N) (r : Fin 4096) (l : Fin 128) :
    X0_2 m c t (ix2 r l) = pick (emb m c) (negIx m c) 0 ⟨4096 * t.val + r.val, row_lt t r⟩ l := by
  rw [X0_2_apply, V_v101]; exact Rows.All.v117_apply _ _ _ l
theorem right_apply (t : Fin cfg0.N) (r : Fin 4096) (l : Fin 128) :
    X0_3 m c t (ix2 r l) = pick (emb m c) (negIx m c) 1 ⟨4096 * t.val + r.val, row_lt t r⟩ l := by
  rw [X0_3_apply, V_v110]; exact Rows.All.v126_apply _ _ _ l

/-- The blocks' pairs are the kept pairs. -/
theorem sum_blocks (f : Fin 320000 → EReal) :
    ∑ t : Fin cfg0.N, ∑ r : Fin 4096, f ⟨4096 * t.val + r.val, row_lt t r⟩ = ∑ p : Fin 319488, f (kept p) :=
  Fin.sum_mul_add_congr (f := fun p => f (kept p))
    (fun s k _ => congrArg f (Fin.ext (show 4096 * s.val + k.val = s.val * 4096 + k.val by omega)))
    (show 319488 = cfg0.N * 4096 by rw [show cfg0.N = 78 from N_0])

theorem row0_eq (i : S_.Idx) : row0 (result m c) i = ∑ p : Fin 319488, pos (emb m c) (posIx m c) (kept p) := by
  rw [row0_apply]
  simp only [result_apply, part_row0]
  rw [Finset.sum_comm, ← sum_blocks]
  refine Finset.sum_congr rfl fun t _ => ?_
  rw [Finset.sum_comm]
  refine Finset.sum_congr rfl fun r _ => Finset.sum_congr rfl fun l _ => ?_
  exact congrArg₂ (fun a b : EReal => max (a - b) 0) (child_apply m c t r l) (parent_apply m c t r l)

theorem row1_eq (i : S_.Idx) : row1 (result m c) i = ∑ p : Fin 319488, neg (emb m c) (negIx m c) (kept p) := by
  rw [row1_apply]
  simp only [result_apply, part_row1]
  rw [Finset.sum_comm, ← sum_blocks]
  refine Finset.sum_congr rfl fun t _ => ?_
  rw [Finset.sum_comm]
  refine Fin.sum_mul_add_congr (fun q l hl => ?_)
  simp only [neg, apart]
  refine congrArg (fun a : EReal => max (1 - Ideal.sqrt a) 0) (Finset.sum_congr rfl fun k _ => ?_)
  exact congrArg₂ (fun a b : EReal => (a - b) * (a - b)) (left_apply m c t _ k) (right_apply m c t _ k)

end Cert.Sums

end
-- ==== Proof.LastPairs.lean ====
/- The precondition: where the last 512 pairs cost nothing, the costs of all pairs add up to those of the kept ones. -/
module

public import proofs.«01_k».proof.Proof.Rows

@[expose] public section

noncomputable section

open Idealize.ShloMosaic

namespace Cert.LastPairs

open Cert.Pre_last_pairs_cost_nothing
open Cert.Rows (pick pos neg apart gathered)
open Cert.Rows.Some (kept)

/-- The shape relations of the predicate's operations. -/
instance facts : Cert.Pre_last_pairs_cost_nothing.Facts where
  slices_S320000x2_S512x1_319488_0 := by decide
  shapeCasts_S512x1_S512 := by decide
  bcast_S_S512 := by decide
  bcast_S512_S512x1_0 := by decide
  slices_S320000x2_S512x1_319488_1 := by decide
  reducesTo_S512x128_S512_d1 := by decide
  h_S_ := by decide
  bcast_S_S512x128 := by decide
  gather_S10000x128_S512x1_S512x128_1_0_n_n_0_1_1128_wf := by decide

/-- A pair the kernel leaves out, among all pairs. -/
abbrev left (b : Fin 512) : Fin 320000 := ⟨319488 + b.val, by omega⟩

/-- The comparison's bit is one exactly where the order holds. -/
theorem ole_eq_one (a b : Ideal .f32) : FloatOps.cmpf .ole a b = 1#1 ↔ (show EReal from a) ≤ (show EReal from b) := by
  show BitVec.ofBool (decide ((show EReal from a) ≤ (show EReal from b))) = 1#1 ↔ _
  by_cases h : (show EReal from a) ≤ (show EReal from b)
  · simp [h]
  · simp [h]

variable (x0 : FVec Ideal S10000x128 .f32) (x1 : FVec Ideal S10000x3 .f32) (x2 : IVec S10000 32) (x3 : IVec S4x320000 32)
  (x4 x5 : IVec S320000x2 32) (x6 : IVec S2x320000 32) (x7 : FVec Ideal S40x128 .f32) (x8 : FVec Ideal S128 .f32)
  (x9 : FVec Ideal S128x128 .f32) (x10 : FVec Ideal S128 .f32) (x11 : FVec Ideal S128x40 .f32) (x12 : FVec Ideal S40 .f32)

/-- The rows gathered for the nodes `k` of the left-out pairs, as the predicate's operations gather them. -/
def rowsOf (k : Nat) (hs : S320000x2.Slices ![319488, k] S512x1) (ix : IVec S320000x2 32) : FVec Ideal S512x128 .f32 :=
  Host.gather gather_S10000x128_S512x1_S512x128_1_0_n_n_0_1_1128 x0 (broadcastInDim S512x1 ![0] Facts.bcast_S512_S512x1_0
    (select (cmpi .slt (shapeCast S512 (extractStridedSlice S512x1 ![319488, k] ix hs) Facts.shapeCasts_S512x1_S512)
        (broadcastInDim S512 ![] Facts.bcast_S_S512 (constantI S_ 32 0#32)))
      (addi (shapeCast S512 (extractStridedSlice S512x1 ![319488, k] ix hs) Facts.shapeCasts_S512x1_S512)
        (broadcastInDim S512 ![] Facts.bcast_S_S512 (constantI S_ 32 10000#32)))
      (shapeCast S512 (extractStridedSlice S512x1 ![319488, k] ix hs) Facts.shapeCasts_S512x1_S512)))

theorem rowsOf_apply (k : Nat) (hk : k < 2) (hs : S320000x2.Slices ![319488, k] S512x1) (ix : IVec S320000x2 32) (b : Fin 512)
    (l : Fin 128) : rowsOf x0 k hs ix (ix2 b l) = pick x0 ix ⟨k, hk⟩ (left b) l :=
  gathered (B := 512) (off := 319488) (k := k) (by decide) hk _ hs _ _ _ x0 ix b l

/-- The predicate's first array: whether an entry of the child's embedding is at most the parent's. -/
def below (p c : FVec Ideal S512x128 .f32) : IVec S512x128 1 :=
  cmpf .ole (subf c p) (broadcastInDim S512x128 ![] Facts.bcast_S_S512x128 (constant S_ .f32 0x00000000#32))

/-- Its second array: whether one minus the distance is at most zero. -/
def beyond (i j : FVec Ideal S512x128 .f32) : IVec S512 1 :=
  cmpf .ole (subf (broadcastInDim S512 ![] Facts.bcast_S_S512 (constant S_ .f32 0x3F800000#32))
      (Host.sqrt (Host.reduceAdd (mulf (subf i j) (subf i j)) (constant S_ .f32 0x00000000#32) Facts.reducesTo_S512x128_S512_d1
        Facts.h_S_)))
    (broadcastInDim S512 ![] Facts.bcast_S_S512 (constant S_ .f32 0x00000000#32))

theorem fn_eq : fn (F := Ideal) x0 x1 x2 x3 x4 x5 x6 x7 x8 x9 x10 x11 x12
    = (below (rowsOf x0 0 Facts.slices_S320000x2_S512x1_319488_0 x4) (rowsOf x0 1 Facts.slices_S320000x2_S512x1_319488_1 x4),
      beyond (rowsOf x0 0 Facts.slices_S320000x2_S512x1_319488_0 x5) (rowsOf x0 1 Facts.slices_S320000x2_S512x1_319488_1 x5)) := rfl

theorem below_apply (p c : FVec Ideal S512x128 .f32) (b : Fin 512) (l : Fin 128) (h : below p c (ix2 b l) = 1#1) :
    (c (ix2 b l) : EReal) - p (ix2 b l) ≤ 0 := by
  have hz : broadcastInDim S512x128 ![] Facts.bcast_S_S512x128 (constant (F := Ideal) S_ .f32 0x00000000#32) (ix2 b l)
      = (0 : EReal) := by pointwise []
  exact hz ▸ (ole_eq_one _ _).mp h

theorem beyond_apply (i j : FVec Ideal S512x128 .f32) (b : Fin 512) (h : beyond i j (ix1 b) = 1#1) :
    1 - Ideal.sqrt (∑ k : Fin 128, (i (ix2 b k) - j (ix2 b k)) * (i (ix2 b k) - j (ix2 b k))) ≤ (0 : EReal) := by
  have hz : broadcastInDim S512 ![] Facts.bcast_S_S512 (constant (F := Ideal) S_ .f32 0x00000000#32) (ix1 b)
      = (0 : EReal) := by pointwise []
  have hd : subf (F := Ideal) (broadcastInDim S512 ![] Facts.bcast_S_S512 (constant (F := Ideal) S_ .f32 0x3F800000#32))
      (Host.sqrt (Host.reduceAdd (mulf (subf i j) (subf i j)) (constant S_ .f32 0x00000000#32) Facts.reducesTo_S512x128_S512_d1
        Facts.h_S_)) (ix1 b)
      = 1 - Ideal.sqrt (∑ k : Fin 128, (i (ix2 b k) - j (ix2 b k)) * (i (ix2 b k) - j (ix2 b k))) := by
    pointwise []
  exact hz ▸ hd ▸ (ole_eq_one _ _).mp h

/-- Where the predicate holds, a left-out positive pair costs nothing. -/
theorem pos_left (h : (fn (F := Ideal) x0 x1 x2 x3 x4 x5 x6 x7 x8 x9 x10 x11 x12).1 = fun _ => 1#1) (b : Fin 512) :
    pos x0 x4 (left b) = 0 := by
  rw [fn_eq] at h
  refine Finset.sum_eq_zero fun l _ => max_eq_right ?_
  have hb := below_apply _ _ b l (congrFun h (ix2 b l))
  rw [rowsOf_apply x0 1 (by decide), rowsOf_apply x0 0 (by decide)] at hb
  exact hb

/-- Where it holds, a left-out negative pair costs nothing. -/
theorem neg_left (h : (fn (F := Ideal) x0 x1 x2 x3 x4 x5 x6 x7 x8 x9 x10 x11 x12).2 = fun _ => 1#1) (b : Fin 512) :
    neg x0 x5 (left b) = 0 := by
  rw [fn_eq] at h
  refine max_eq_right ?_
  have hb := beyond_apply _ _ b (congrFun h (ix1 b))
  simp only [rowsOf_apply x0 1 (by decide), rowsOf_apply x0 0 (by decide)] at hb
  exact hb

/-- A sum over all pairs whose left-out terms vanish is the sum over the kept pairs. -/
theorem sum_kept (f : Fin 320000 → EReal) (h : ∀ b : Fin 512, f (left b) = 0) :
    ∑ p : Fin 320000, f p = ∑ p : Fin 319488, f (kept p) := by
  have hs := Fin.sum_univ_add (a := 319488) (b := 512) f
  refine hs.trans ?_
  rw [show ∑ b : Fin 512, f (Fin.natAdd 319488 b) = 0 from Finset.sum_eq_zero fun b _ => h b, add_zero]
  rfl

end Cert.LastPairs

end
-- ==== Proof.Agree.lean ====
/- The kernel's result is the reference's: over the kept pairs always, over all pairs where the left-out ones cost nothing. -/
module

public import proofs.«01_k».proof.Proof.Growth
public import proofs.«01_k».proof.Proof.Sums
public import proofs.«01_k».proof.Proof.LastPairs

@[expose] public section

noncomputable section

open Idealize.ShloMosaic Idealize.ShloMosaic.TcCoe Idealize.SL.Sem

namespace Cert.Agree

open Cert.KernelIdeal Cert.KernelIdeal.Gen Cert.KernelIdeal.Host Cert.KernelIdeal.Acc Cert.KernelIdeal.Run
open Cert.Sums (emb posIx negIx)

variable (m : (ℓ : Loc nD τ sig) → Buf (Elt Ideal) ℓ) (c : Dev nD)

/-- The growth loss before the region is the reference's, at the launch's arguments. -/
theorem growth_read : V m c main_v74 = Cert.ReferenceIdeal.Read.val_main_v85 (F := Ideal)
    (m (c, Proc.devRef .tc main_arg1)) (m (c, Proc.devRef .tc main_arg6)) (m (c, Proc.devRef .tc main_arg7))
    (m (c, Proc.devRef .tc main_arg8)) (m (c, Proc.devRef .tc main_arg9)) (m (c, Proc.devRef .tc main_arg10))
    (m (c, Proc.devRef .tc main_arg11)) (m (c, Proc.devRef .tc main_arg12)) :=
  (V_v74 m c).trans (Growth.growth_eq _ _ _ _ _ _ _ _)

/-- The reference over the kept pairs, at the launch's arguments. -/
def keptValue : (⟨S_, .f32⟩ : BufTy).Contents (Elt Ideal) := Cert.KeptIdeal.Read.val_main_v136 (F := Ideal)
  (m (c, Proc.devRef .tc main_arg0)) (m (c, Proc.devRef .tc main_arg1)) (m (c, Proc.devRef .tc main_arg4))
  (m (c, Proc.devRef .tc main_arg5)) (m (c, Proc.devRef .tc main_arg6)) (m (c, Proc.devRef .tc main_arg7))
  (m (c, Proc.devRef .tc main_arg8)) (m (c, Proc.devRef .tc main_arg9)) (m (c, Proc.devRef .tc main_arg10))
  (m (c, Proc.devRef .tc main_arg11)) (m (c, Proc.devRef .tc main_arg12))

/-- The reference over all pairs, at the launch's arguments. -/
def allValue : (⟨S_, .f32⟩ : BufTy).Contents (Elt Ideal) := Cert.ReferenceIdeal.Read.val_main_v136 (F := Ideal)
  (m (c, Proc.devRef .tc main_arg0)) (m (c, Proc.devRef .tc main_arg1)) (m (c, Proc.devRef .tc main_arg4))
  (m (c, Proc.devRef .tc main_arg5)) (m (c, Proc.devRef .tc main_arg6)) (m (c, Proc.devRef .tc main_arg7))
  (m (c, Proc.devRef .tc main_arg8)) (m (c, Proc.devRef .tc main_arg9)) (m (c, Proc.devRef .tc main_arg10))
  (m (c, Proc.devRef .tc main_arg11)) (m (c, Proc.devRef .tc main_arg12))

theorem kept_eq : total (V m c main_v74) (row0 (result m c)) (row1 (result m c)) = keptValue m c := by
  have h0 : row0 (result m c) = Cert.KeptIdeal.Read.val_main_v107 (F := Ideal) (emb m c) (posIx m c) :=
    funext fun i => (Sums.row0_eq m c i).trans (Rows.Some.v107_apply _ _ i).symm
  have h1 : row1 (result m c) = Cert.KeptIdeal.Read.val_main_v132 (F := Ideal) (emb m c) (negIx m c) :=
    funext fun i => (Sums.row1_eq m c i).trans (Rows.Some.v132_apply _ _ i).symm
  rw [h0, h1, growth_read, ← Growth.kept_growth_eq]
  rfl

theorem all_eq (hp : ∀ b, Rows.pos (emb m c) (posIx m c) (LastPairs.left b) = 0)
    (hn : ∀ b, Rows.neg (emb m c) (negIx m c) (LastPairs.left b) = 0) :
    total (V m c main_v74) (row0 (result m c)) (row1 (result m c)) = allValue m c := by
  have h0 : row0 (result m c) = Cert.ReferenceIdeal.Read.val_main_v107 (F := Ideal) (emb m c) (posIx m c) :=
    funext fun i => (Sums.row0_eq m c i).trans
      ((LastPairs.sum_kept _ hp).symm.trans (Rows.All.v107_apply _ _ i).symm)
  have h1 : row1 (result m c) = Cert.ReferenceIdeal.Read.val_main_v132 (F := Ideal) (emb m c) (negIx m c) :=
    funext fun i => (Sums.row1_eq m c i).trans
      ((LastPairs.sum_kept _ hn).symm.trans (Rows.All.v132_apply _ _ i).symm)
  rw [h0, h1, growth_read]
  rfl

end Cert.Agree

end
-- ==== Proof.lean ====
/- The claim, put together: the frames of the kernel, of its idealization and of both references; the kernel's result is the
   reference's over the kept pairs for every input, and the reference's over all pairs where the left-out pairs cost
   nothing. -/
module

public import proofs.«01_k».proof.Defs
public import proofs.«01_k».proof.Proof.Gen.Kernel.Frame
public import proofs.«01_k».proof.Proof.Gen.KeptIdeal
public import proofs.«01_k».proof.Proof.Agree

@[expose] public section

noncomputable section

namespace Cert.Proof

open Idealize.ShloMosaic Idealize.ShloMosaic.TcCoe Idealize.SL.Sem

/-- The reference over all pairs leaves its arguments as launched; it has no semaphore. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- So does the reference over the kept pairs. -/
theorem frame_kept : Cert.quiescent_KeptIdeal := fun m g _ =>
  (θ_run Cert.KeptIdeal.defs _ _).mono
    (fun r h => ⟨fun c => (h c).2, sem_eq_zero_of_no_sems (by decide) r.2⟩) (Cert.KeptIdeal.Value.run m g)

/-- The kernel computes the reference over the kept pairs. -/
theorem algebraic_kept : Cert.algebraic_KernelIdeal_KeptIdeal := by
  intro m g m' g' _ hargs
  refine ⟨fun c => Agree.keptValue m c, ?_, ?_⟩
  · exact (θ_run Cert.KernelIdeal.defs _ _).mono (fun _ h c => ⟨(h c).1.trans (Agree.kept_eq m c), (h c).2⟩)
      (Cert.KernelIdeal.Run.run m g)
  · refine (θ_run Cert.KeptIdeal.defs _ _).mono (fun _ h c => ⟨(h c).1.trans ?_, (h c).2⟩) (Cert.KeptIdeal.Value.run m' g')
    obtain ⟨e0, e1, e2, e3, e4, e5, e6, e7, e8, e9, e10, e11, e12⟩ := hargs c
    refine (Cert.KeptIdeal.Read.val_main_v136_eq (StableHlo.launchContents m' c)).trans ?_
    show Cert.KeptIdeal.Read.val_main_v136 (F := Ideal)
      (m' ((c.tc : Thread Cert.KeptIdeal.nD Cert.KeptIdeal.τ).loc Cert.KeptIdeal.main_arg0))
      (m' ((c.tc : Thread Cert.KeptIdeal.nD Cert.KeptIdeal.τ).loc Cert.KeptIdeal.main_arg1))
      (m' ((c.tc : Thread Cert.KeptIdeal.nD Cert.KeptIdeal.τ).loc Cert.KeptIdeal.main_arg4))
      (m' ((c.tc : Thread Cert.KeptIdeal.nD Cert.KeptIdeal.τ).loc Cert.KeptIdeal.main_arg5))
      (m' ((c.tc : Thread Cert.KeptIdeal.nD Cert.KeptIdeal.τ).loc Cert.KeptIdeal.main_arg6))
      (m' ((c.tc : Thread Cert.KeptIdeal.nD Cert.KeptIdeal.τ).loc Cert.KeptIdeal.main_arg7))
      (m' ((c.tc : Thread Cert.KeptIdeal.nD Cert.KeptIdeal.τ).loc Cert.KeptIdeal.main_arg8))
      (m' ((c.tc : Thread Cert.KeptIdeal.nD Cert.KeptIdeal.τ).loc Cert.KeptIdeal.main_arg9))
      (m' ((c.tc : Thread Cert.KeptIdeal.nD Cert.KeptIdeal.τ).loc Cert.KeptIdeal.main_arg10))
      (m' ((c.tc : Thread Cert.KeptIdeal.nD Cert.KeptIdeal.τ).loc Cert.KeptIdeal.main_arg11))
      (m' ((c.tc : Thread Cert.KeptIdeal.nD Cert.KeptIdeal.τ).loc Cert.KeptIdeal.main_arg12)) = _
    rw [e0, e1, e4, e5, e6, e7, e8, e9, e10, e11, e12]
    rfl

/-- Where the left-out pairs cost nothing it computes the reference over all pairs. -/
theorem algebraic_all : Cert.algebraic_KernelIdeal_ReferenceIdeal_pre_last_pairs_cost_nothing := by
  intro m g m' g' hpre hargs
  refine ⟨fun c => Agree.allValue m c, ?_, ?_⟩
  · exact (θ_run Cert.KernelIdeal.defs _ _).mono (fun _ h c => ⟨(h c).1.trans (Agree.all_eq m c
        (LastPairs.pos_left _ _ _ _ _ _ _ _ _ _ _ _ _ (hpre c).1) (LastPairs.neg_left _ _ _ _ _ _ _ _ _ _ _ _ _ (hpre c).2)),
      (h c).2⟩)
      (Cert.KernelIdeal.Run.run m g)
  · refine (θ_run Cert.ReferenceIdeal.defs _ _).mono (fun _ h c => ⟨(h c).1.trans ?_, (h c).2⟩)
      (Cert.ReferenceIdeal.Value.run m' g')
    obtain ⟨e0, e1, e2, e3, e4, e5, e6, e7, e8, e9, e10, e11, e12⟩ := hargs c
    refine (Cert.ReferenceIdeal.Read.val_main_v136_eq (StableHlo.launchContents m' c)).trans ?_
    show Cert.ReferenceIdeal.Read.val_main_v136 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) = _
    rw [e0, e1, e4, e5, e6, e7, e8, e9, e10, e11, e12]
    rfl

theorem claim : Cert.Claim :=
  ⟨Cert.Kernel.Gen.facts, Cert.KernelIdeal.Gen.facts, Cert.KeptIdeal.Gen.facts, Cert.ReferenceIdeal.Gen.facts,
    Cert.LastPairs.facts,
    fun m g _ => Cert.Kernel.Gen.frame m g,
    fun m g _ => Cert.KernelIdeal.Gen.frame m g,
    fun m g _ => Cert.KernelIdeal.Gen.frame m g,
    frame_kept, frame_reference, fun m g _ => frame_reference m g trivial, trivial, algebraic_kept, algebraic_all⟩

end Cert.Proof

end
